-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing_KernelIdeal [hPre_finite_routing_KernelIdeal : Cert.Pre_finite_routing_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing_ReferenceIdeal [hPre_finite_routing_ReferenceIdeal : Cert.Pre_finite_routing_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_routing_KernelIdeal [hKernelIdeal : Cert.KernelIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_routing_ReferenceIdeal [hReferenceIdeal : Cert.ReferenceIdeal.Facts] [hPre_finite_routing_ReferenceIdeal : Cert.Pre_finite_routing_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_routing_KernelIdeal [hKernelIdeal : Cert.KernelIdeal.Facts] [hReferenceIdeal : Cert.ReferenceIdeal.Facts] [hPre_finite_routing_KernelIdeal : Cert.Pre_finite_routing_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![8192, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_routing_KernelIdeal : Cert.Pre_finite_routing_KernelIdeal.Facts) (hPre_finite_routing_ReferenceIdeal : Cert.Pre_finite_routing_ReferenceIdeal.Facts),
    quiescent_Kernel (hKernel := hKernel)
    ∧ quiescent_KernelIdeal (hKernelIdeal := hKernelIdeal)
    ∧ quiescent_KernelIdeal_pre_finite_routing_KernelIdeal (hKernelIdeal := hKernelIdeal) (hPre_finite_routing_KernelIdeal := hPre_finite_routing_KernelIdeal)
    ∧ quiescent_ReferenceIdeal (hReferenceIdeal := hReferenceIdeal)
    ∧ quiescent_ReferenceIdeal_pre_finite_routing_ReferenceIdeal (hReferenceIdeal := hReferenceIdeal) (hPre_finite_routing_ReferenceIdeal := hPre_finite_routing_ReferenceIdeal)
    ∧ preserves_Kernel_KernelIdeal
    ∧ algebraic_KernelIdeal_ReferenceIdeal_pre_finite_routing_KernelIdeal (hKernelIdeal := hKernelIdeal) (hReferenceIdeal := hReferenceIdeal) (hPre_finite_routing_KernelIdeal := hPre_finite_routing_KernelIdeal)
-- ==== Pre_finite_routing_KernelIdeal.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .f32) (main_arg1 : FVec F S512x16 .f32) (main_arg2 : IVec S2048x2 32) (main_arg3 : FVec F S4x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  main_v8
-- ==== Pre_finite_routing_ReferenceIdeal.lean ====
abbrev S8192x512 : Shape := ⟨2, ![8192, 512]⟩
abbrev S512x16 : Shape := ⟨2, ![512, 16]⟩
abbrev S8192x2 : Shape := ⟨2, ![8192, 2]⟩
abbrev S16x512x1024 : Shape := ⟨3, ![16, 512, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S8192x512 .f32) (main_arg1 : FVec F S512x16 .f32) (main_arg2 : IVec S8192x2 32) (main_arg3 : FVec F S16x512x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  main_v8
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S2048x1024 : Shape := ⟨2, ![2048, 1024]⟩
abbrev S3x2x512x1024 : Shape := ⟨4, ![3, 2, 512, 1024]⟩
abbrev S2x512x1024 : Shape := ⟨3, ![2, 512, 1024]⟩
abbrev S3 : Shape := ⟨1, ![3]⟩
abbrev S2 : Shape := ⟨1, ![2]⟩
abbrev S_ : Shape := ⟨0, ![]⟩
abbrev S2048x16 : Shape := ⟨2, ![2048, 16]⟩
abbrev S2048 : Shape := ⟨1, ![2048]⟩
abbrev S2048x1 : Shape := ⟨2, ![2048, 1]⟩
abbrev S1 : Shape := ⟨1, ![1]⟩
abbrev S1x2x512x1024 : Shape := ⟨4, ![1, 2, 512, 1024]⟩
abbrev S1x512x1024 : Shape := ⟨3, ![1, 512, 1024]⟩
abbrev S512x1024 : Shape := ⟨2, ![512, 1024]⟩
abbrev S1x1x512x1024 : Shape := ⟨4, ![1, 1, 512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x2, .i32⟩
  | .hbm, ⟨3, _⟩ => ⟨S4x512x1024, .f32⟩
  | .hbm, ⟨4, _⟩ => ⟨S2048x1024, .f32⟩
  | .hbm, ⟨5, _⟩ => ⟨S3x2x512x1024, .f32⟩
  | .hbm, ⟨6, _⟩ => ⟨S3x2x512x1024, .f32⟩
  | .local _ .vmem, ⟨0, _⟩ => ⟨S2048x512, .f32⟩
  | .local _ .vmem, ⟨1, _⟩ => ⟨S512x16, .f32⟩
  | .local _ .vmem, ⟨2, _⟩ => ⟨S2048x2, .i32⟩
  | .local _ .vmem, ⟨3, _⟩ => ⟨S2048x1024, .f32⟩
  | .local _ .vmem, ⟨4, _⟩ => ⟨S2x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v66 : BitVec 32 := Scalar.muli v24 c1_i32_32
  let v67 : BitVec 32 := Scalar.addi c0_i32_33 v66
  v67.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v75 : BitVec 32 := Scalar.muli v13 c1_i32_43
  let v76 : BitVec 32 := Scalar.addi c0_i32_44 v75
  v76.toNat
def k0_dev5 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_190 : BitVec 32 := 1#32
  let v241 : BitVec 32 := Scalar.muli v24 c1_i32_190
  let v242 : BitVec 32 := Scalar.addi c0_i32_191 v241
  v242.toNat
def k0_dev6 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_202 : BitVec 32 := 1#32
  let v251 : BitVec 32 := Scalar.muli v13 c1_i32_202
  let v252 : BitVec 32 := Scalar.addi c0_i32_203 v251
  v252.toNat
def k0_dev7 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_392 : BitVec 32 := 1#32
  let v469 : BitVec 32 := Scalar.muli v24 c1_i32_392
  let v470 : BitVec 32 := Scalar.addi c0_i32_393 v469
  v470.toNat
def k0_dev8 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_404 : BitVec 32 := 1#32
  let v479 : BitVec 32 := Scalar.muli v13 c1_i32_404
  let v480 : BitVec 32 := Scalar.addi c0_i32_405 v479
  v480.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x512 : Shape := ⟨2, ![8192, 512]⟩
abbrev S512x16 : Shape := ⟨2, ![512, 16]⟩
abbrev S8192x2 : Shape := ⟨2, ![8192, 2]⟩
abbrev S16x512x1024 : Shape := ⟨3, ![16, 512, 1024]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S2 : Shape := ⟨1, ![2]⟩
abbrev S1x1x2 : Shape := ⟨3, ![1, 1, 2]⟩
abbrev S8192x16x1024 : Shape := ⟨3, ![8192, 16, 1024]⟩
abbrev S8192x2x1024 : Shape := ⟨3, ![8192, 2, 1024]⟩
abbrev S8192x1024 : Shape := ⟨2, ![8192, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x16, .f32⟩
  | .hbm, ⟨2, _⟩ => ⟨S8192x2, .i32⟩
  | .hbm, ⟨3, _⟩ => ⟨S16x512x1024, .f32⟩
  | .hbm, ⟨4, _⟩ => ⟨S8192x16, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S8192, .i32⟩
  | .hbm, ⟨17, _⟩ => ⟨S8192x1, .i32⟩
  | .hbm, ⟨18, _⟩ => ⟨S8192x2, .i32⟩
  | .hbm, ⟨19, _⟩ => ⟨S8192x2x1, .i32⟩
  | .hbm, ⟨20, _⟩ => ⟨S8192x2x1, .i32⟩
  | .hbm, ⟨21, _⟩ => ⟨S8192x2x2, .i32⟩
  | .hbm, ⟨22, _⟩ => ⟨S2, .i32⟩
  | .hbm, ⟨23, _⟩ => ⟨S_, .i32⟩
  | .hbm, ⟨24, _⟩ => ⟨S8192x2x2, .i32⟩
  | .hbm, ⟨25, _⟩ => ⟨S8192x2x2, .i1⟩
  | .hbm, ⟨26, _⟩ => ⟨S1x1x2, .i32⟩
  | .hbm, ⟨27, _⟩ => ⟨S8192x2x2, .i32⟩
  | .hbm, ⟨28, _⟩ => ⟨S8192x2x2, .i1⟩
  | .hbm, ⟨29, _⟩ => ⟨S8192x2x2, .i1⟩
  | .hbm, ⟨30, _⟩ => ⟨S_, .i1⟩
  | .hbm, ⟨31, _⟩ => ⟨S8192x2, .i1⟩
  | .hbm, ⟨32, _⟩ => ⟨S8192x2, .f32⟩
  | .hbm, ⟨33, _⟩ => ⟨S_, .f32⟩
  | .hbm, ⟨34, _⟩ => ⟨S8192x2, .f32⟩
  | .hbm, ⟨35, _⟩ => ⟨S8192x2, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x16x1024, .f32⟩
  | .hbm, ⟨40, _⟩ => ⟨S8192x2, .i32⟩
  | .hbm, ⟨41, _⟩ => ⟨S8192x2x1, .i32⟩
  | .hbm, ⟨42, _⟩ => ⟨S8192x2x1, .i32⟩
  | .hbm, ⟨43, _⟩ => ⟨S8192x2x2, .i32⟩
  | .hbm, ⟨44, _⟩ => ⟨S2, .i32⟩
  | .hbm, ⟨45, _⟩ => ⟨S_, .i32⟩
  | .hbm, ⟨46, _⟩ => ⟨S8192x2x2, .i32⟩
  | .hbm, ⟨47, _⟩ => ⟨S8192x2x2, .i1⟩
  | .hbm, ⟨48, _⟩ => ⟨S1x1x2, .i32⟩
  | .hbm, ⟨49, _⟩ => ⟨S8192x2x2, .i32⟩
  | .hbm, ⟨50, _⟩ => ⟨S8192x2x2, .i1⟩
  | .hbm, ⟨51, _⟩ => ⟨S8192x2x2, .i1⟩
  | .hbm, ⟨52, _⟩ => ⟨S_, .i1⟩
  | .hbm, ⟨53, _⟩ => ⟨S8192x2, .i1⟩
  | .hbm, ⟨54, _⟩ => ⟨S8192x2x1024, .f32⟩
  | .hbm, ⟨55, _⟩ => ⟨S8192x2x1024, .i1⟩
  | .hbm, ⟨56, _⟩ => ⟨S_, .f32⟩
  | .hbm, ⟨57, _⟩ => ⟨S8192x2x1024, .f32⟩
  | .hbm, ⟨58, _⟩ => ⟨S8192x2x1024, .f32⟩
  | .hbm, ⟨59, _⟩ => ⟨S8192x2, .f32⟩
  | .hbm, ⟨60, _⟩ => ⟨S8192x2, .f32⟩
  | .hbm, ⟨61, _⟩ => ⟨S8192x2x1, .f32⟩
  | .hbm, ⟨62, _⟩ => ⟨S8192x2x1024, .f32⟩
  | .hbm, ⟨63, _⟩ => ⟨S8192x2x1024, .f32⟩
  | .hbm, ⟨64, _⟩ => ⟨S_, .f32⟩
  | .hbm, ⟨65, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Ring.lean ====
/-
# The ring protocol: cells, contents, schedule

Device `c` has two neighbours, `nxt c` and `prv c`. The expert weights travel both ways round the ring in three rounds:
the first half of each device's experts goes to `nxt`, round by round, into its clockwise buffer; the second half goes
to `prv`, into its counter-clockwise buffer. A device's barrier cell is paid by both neighbours, each handing over the
buffer that this device writes into; every DMA cell carries one transfer. What a receive cell hands over is the piece that
landed, at the contents named here (`cwC`, `ccC`); what a send cell hands over is nothing, since the half share that was lent
is not needed again.
-/
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Exec

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
/-- The ghost state: the staging protocol's, this ring's, and the counters of the copies inside one device. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

variable (m : (ℓ : Loc nD τ sig) → Buf (Elt F) ℓ) (ρ : Dev nD → PrngReg)

def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The printed device chains: the first signal names `prv c`, the second `nxt c`; of each pair of transfers the first
    goes to `nxt c`, the second to `prv c`. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide

/-! ## The buffers and their pieces -/

abbrev xM : Memref sig .tc .vmem S2048x512 .f32 := Memref.whole cc0_stg0_0
abbrev rM : Memref sig .tc .vmem S512x16 .f32 := Memref.whole cc0_stg1_0
abbrev iM : Memref sig .tc .vmem S2048x2 .i32 := Memref.whole cc0_stg2_0
abbrev oM : Memref sig .tc .vmem S2048x1024 .f32 := Memref.whole cc0_stg3_0
abbrev eM : Memref sig .tc .hbm S4x512x1024 .f32 := Memref.whole main_arg3
abbrev cwM : Memref sig .tc .hbm S3x2x512x1024 .f32 := Memref.whole main_v1_1
abbrev ccM : Memref sig .tc .hbm S3x2x512x1024 .f32 := Memref.whole main_v1_2
abbrev wM : Memref sig .tc .vmem S2x512x1024 .f32 := Memref.whole cc0_scratch0

/-- The two halves of a device's experts. -/
abbrev eLo : Memref sig .tc .hbm S2x512x1024 .f32 :=
  eM.slice (Rect.unit (s := S4x512x1024) ![0, 0, 0] S2x512x1024.size inb_S4x512x1024_S2x512x1024_0_0_0) (fun _ => rfl)
abbrev eHi : Memref sig .tc .hbm S2x512x1024 .f32 :=
  eM.slice (Rect.unit (s := S4x512x1024) ![2, 0, 0] S2x512x1024.size inb_S4x512x1024_S2x512x1024_2_0_0) (fun _ => rfl)

/-- The three pieces of a travelling buffer, one a round. -/
abbrev R0 : Rect S3x2x512x1024 := Rect.unit (s := S3x2x512x1024) ![0, 0, 0, 0] S1x2x512x1024.size inb_S3x2x512x1024_S1x2x512x1024_0_0_0_0
abbrev R1 : Rect S3x2x512x1024 := Rect.unit (s := S3x2x512x1024) ![1, 0, 0, 0] S1x2x512x1024.size inb_S3x2x512x1024_S1x2x512x1024_1_0_0_0
abbrev R2 : Rect S3x2x512x1024 := Rect.unit (s := S3x2x512x1024) ![2, 0, 0, 0] S1x2x512x1024.size inb_S3x2x512x1024_S1x2x512x1024_2_0_0_0
abbrev pc0 (b : Memref sig .tc .hbm S3x2x512x1024 .f32) : Memref sig .tc .hbm S2x512x1024 .f32 :=
  (b.slice R0 (fun _ => rfl)).squeeze S2x512x1024 squeezes_S1x2x512x1024_S2x512x1024
abbrev pc1 (b : Memref sig .tc .hbm S3x2x512x1024 .f32) : Memref sig .tc .hbm S2x512x1024 .f32 :=
  (b.slice R1 (fun _ => rfl)).squeeze S2x512x1024 squeezes_S1x2x512x1024_S2x512x1024
abbrev pc2 (b : Memref sig .tc .hbm S3x2x512x1024 .f32) : Memref sig .tc .hbm S2x512x1024 .f32 :=
  (b.slice R2 (fun _ => rfl)).squeeze S2x512x1024 squeezes_S1x2x512x1024_S2x512x1024

theorem pc0_set (b : Memref sig .tc .hbm S3x2x512x1024 .f32) : (pc0 b).view.set = b.view.setOn R0.set := by
  show ((b.view.slice R0).reshape _ _).set = _
  rw [View.set_reshape, View.set_slice]; rfl
theorem pc1_set (b : Memref sig .tc .hbm S3x2x512x1024 .f32) : (pc1 b).view.set = b.view.setOn R1.set := by
  show ((b.view.slice R1).reshape _ _).set = _
  rw [View.set_reshape, View.set_slice]; rfl
theorem pc2_set (b : Memref sig .tc .hbm S3x2x512x1024 .f32) : (pc2 b).view.set = b.view.setOn R2.set := by
  show ((b.view.slice R2).reshape _ _).set = _
  rw [View.set_reshape, View.set_slice]; rfl

/-! ## The cells -/

abbrev barS : Sem sig := barrier0
abbrev dq (n : ℕ) (h : n < 18 := by decide) : DmaSem sig := ⟨n, h⟩

abbrev barCell (c : Dev nD) : GSem nD τ sig := ((c : Thread nD τ), .reg barS)
abbrev dCell (c : Dev nD) (q : DmaSem sig) : GSem nD τ sig := ((c : Thread nD τ), .dma q)

/-- The cells under the protocol, as the launch indexes them: the barrier, then the twelve DMA cells 4 … 15 (clockwise
    send and receive, counter-clockwise send and receive, three rounds each). -/
def ksem (k : Fin 13) : SemLoc sig := if h : k.val = 0 then .reg barS else .dma ⟨k.val + 3, by have := k.isLt; show k.val + 3 < 18; omega⟩
abbrev kcell (ck : Dev nD × Fin 13) : GSem nD τ sig := ((ck.1 : Thread nD τ), ksem ck.2)

theorem sems8_0 : ((cc0_scratch1.slice (Rect.unit (s := S3) ![0] S1.size inb_S3_S1_0)).squeeze S_ squeezes_S1_S_).sem = dq 4 := rfl
theorem sems8_1 : ((cc0_scratch1.slice (Rect.unit (s := S3) ![1] S1.size inb_S3_S1_1)).squeeze S_ squeezes_S1_S_).sem = dq 5 := rfl
theorem sems8_2 : ((cc0_scratch1.slice (Rect.unit (s := S3) ![2] S1.size inb_S3_S1_2)).squeeze S_ squeezes_S1_S_).sem = dq 6 := rfl
theorem sems9_0 : ((cc0_scratch2.slice (Rect.unit (s := S3) ![0] S1.size inb_S3_S1_0)).squeeze S_ squeezes_S1_S_).sem = dq 7 := rfl
theorem sems9_1 : ((cc0_scratch2.slice (Rect.unit (s := S3) ![1] S1.size inb_S3_S1_1)).squeeze S_ squeezes_S1_S_).sem = dq 8 := rfl
theorem sems9_2 : ((cc0_scratch2.slice (Rect.unit (s := S3) ![2] S1.size inb_S3_S1_2)).squeeze S_ squeezes_S1_S_).sem = dq 9 := rfl
theorem sems10_0 : ((cc0_scratch3.slice (Rect.unit (s := S3) ![0] S1.size inb_S3_S1_0)).squeeze S_ squeezes_S1_S_).sem = dq 10 := rfl
theorem sems10_1 : ((cc0_scratch3.slice (Rect.unit (s := S3) ![1] S1.size inb_S3_S1_1)).squeeze S_ squeezes_S1_S_).sem = dq 11 := rfl
theorem sems10_2 : ((cc0_scratch3.slice (Rect.unit (s := S3) ![2] S1.size inb_S3_S1_2)).squeeze S_ squeezes_S1_S_).sem = dq 12 := rfl
theorem sems11_0 : ((cc0_scratch4.slice (Rect.unit (s := S3) ![0] S1.size inb_S3_S1_0)).squeeze S_ squeezes_S1_S_).sem = dq 13 := rfl
theorem sems11_1 : ((cc0_scratch4.slice (Rect.unit (s := S3) ![1] S1.size inb_S3_S1_1)).squeeze S_ squeezes_S1_S_).sem = dq 14 := rfl
theorem sems11_2 : ((cc0_scratch4.slice (Rect.unit (s := S3) ![2] S1.size inb_S3_S1_2)).squeeze S_ squeezes_S1_S_).sem = dq 15 := rfl
theorem sems12_0 : ((cc0_scratch5.slice (Rect.unit (s := S2) ![0] S1.size inb_S2_S1_0)).squeeze S_ squeezes_S1_S_).sem = dq 16 := rfl
theorem sems12_1 : ((cc0_scratch5.slice (Rect.unit (s := S2) ![1] S1.size inb_S2_S1_1)).squeeze S_ squeezes_S1_S_).sem = dq 17 := rfl

/-- What one transfer between devices credits. -/
abbrev N : ℕ := (pc0 cwM).view.dmaCredit
theorem N_pos : 0 < N := View.dmaCredit_pos _ (by decide)

/-! ## Contents -/

/-- The experts of device `c`. -/
abbrev ewC (c : Dev nD) : Buf (Elt F) ((c : Thread nD τ).loc main_arg3) := m ((c : Thread nD τ).loc main_arg3)

/-- What stands in device `c`'s clockwise buffer, on the piece of the round. -/
def cwC0 (c : Dev nD) : Buf (Elt F) ((c : Thread nD τ).loc main_v1_1) :=
  (pc0 cwM).view.write (Elt F) (m ((c : Thread nD τ).loc main_v1_1)) (eLo.view.read (Elt F) (ewC m (prv c))) Finset.univ
def cwC1 (c : Dev nD) : Buf (Elt F) ((c : Thread nD τ).loc main_v1_1) :=
  (pc1 cwM).view.write (Elt F) (m ((c : Thread nD τ).loc main_v1_1)) ((pc0 cwM).view.read (Elt F) (cwC0 m (prv c))) Finset.univ
def cwC2 (c : Dev nD) : Buf (Elt F) ((c : Thread nD τ).loc main_v1_1) :=
  (pc2 cwM).view.write (Elt F) (m ((c : Thread nD τ).loc main_v1_1)) ((pc1 cwM).view.read (Elt F) (cwC1 m (prv c))) Finset.univ
/-- The same of its counter-clockwise buffer. -/
def ccC0 (c : Dev nD) : Buf (Elt F) ((c : Thread nD τ).loc main_v1_2) :=
  (pc0 ccM).view.write (Elt F) (m ((c : Thread nD τ).loc main_v1_2)) (eHi.view.read (Elt F) (ewC m (nxt c))) Finset.univ
def ccC1 (c : Dev nD) : Buf (Elt F) ((c : Thread nD τ).loc main_v1_2) :=
  (pc1 ccM).view.write (Elt F) (m ((c : Thread nD τ).loc main_v1_2)) ((pc0 ccM).view.read (Elt F) (ccC0 m (nxt c))) Finset.univ
def ccC2 (c : Dev nD) : Buf (Elt F) ((c : Thread nD τ).loc main_v1_2) :=
  (pc2 ccM).view.write (Elt F) (m ((c : Thread nD τ).loc main_v1_2)) ((pc1 ccM).view.read (Elt F) (ccC1 m (nxt c))) Finset.univ

/-- A memref's own elements on device `c` at share `q`. -/
def pts {sp : Space} {s : Shape} (M : Memref sig .tc sp s .f32) (c : Dev nD) (q : PosShare TreeShare)
    (f : Buf (Elt F) (M.view.loc (c : Thread nD τ))) : sProp 𝕄 := M.view.loc (c : Thread nD τ) ↦[M.view.set]{q} f
omit [FloatOps F] in
instance pts_storable {sp : Space} {s : Shape} (M : Memref sig .tc sp s .f32) (c : Dev nD) (q : PosShare TreeShare) (f) :
    BI.Storable (upEmb : UEmb _ 𝕄) (pts (F := F) M c q f) := by unfold pts; infer_instance

/-! ## The schedule -/

/-- What the two neighbours hand over at device `d`'s barrier: `nxt d` its clockwise buffer, `prv d` its counter-clockwise one,
    each in its three pieces. -/
def barT (d : Dev nD) : sProp 𝕄 :=
  iprop((∃ f, pts (pc0 cwM) (nxt d) fullShare f) ∗ (∃ f, pts (pc1 cwM) (nxt d) fullShare f) ∗ (∃ f, pts (pc2 cwM) (nxt d) fullShare f))
def barF (d : Dev nD) : sProp 𝕄 :=
  iprop((∃ f, pts (pc0 ccM) (prv d) fullShare f) ∗ (∃ f, pts (pc1 ccM) (prv d) fullShare f) ∗ (∃ f, pts (pc2 ccM) (prv d) fullShare f))
/-- What DMA cell `q` of device `d` hands over. -/
def dmaPay (d : Dev nD) (q : ℕ) : sProp 𝕄 :=
  if q = 7 then pts (pc0 cwM) d fullShare (cwC0 m d) else if q = 8 then pts (pc1 cwM) d fullShare (cwC1 m d)
  else if q = 9 then pts (pc2 cwM) d fullShare (cwC2 m d) else if q = 13 then pts (pc0 ccM) d fullShare (ccC0 m d)
  else if q = 14 then pts (pc1 ccM) d fullShare (ccC1 m d) else if q = 15 then pts (pc2 ccM) d fullShare (ccC2 m d)
  else iprop(emp)

abbrev IsBar (g : GSem nD τ sig) : Prop := g.1.2 = .tc ∧ g.2 = .reg barS
/-- A transfer's cell: one of the DMA semaphores 4 … 15. -/
def dIdx (g : GSem nD τ sig) : ℕ := match g.2 with | .dma q => q.val | .reg _ => 0
abbrev IsXfer (g : GSem nD τ sig) : Prop := g.1.2 = .tc ∧ 4 ≤ dIdx g ∧ dIdx g ≤ 15

def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := if g.2 = .reg barS then (if d then barT g.1.1 else barF g.1.1) else dmaPay m g.1.1 (dIdx g)
  amount_pos g _ _ _ := by
    by_cases h : g.2 = .reg barS
    · rw [if_pos h]; exact Nat.one_pos
    · rw [if_neg h]; exact N_pos

omit [FloatOps F] in
instance dmaPay_storable (d : Dev nD) (q : ℕ) : BI.Storable (upEmb : UEmb _ 𝕄) (dmaPay m d q) := by
  unfold dmaPay; (repeat' split) <;> infer_instance
omit [FloatOps F] in
instance sched_payload_storable (g : GSem nD τ sig) (r : ℕ) (d : Bool) :
    BI.Storable (upEmb : UEmb _ 𝕄) ((sched (F := F) m).payload g r d) := by
  show BI.Storable upEmb (if g.2 = .reg barS then (if d then barT g.1.1 else barF g.1.1) else dmaPay m g.1.1 (dIdx g))
  unfold barT barF
  (repeat' split) <;> infer_instance

section Sched
variable (c : Dev nD)

omit [FloatOps F] in
theorem duties_bar : (sched (F := F) m).duties (barCell c) 0 = Finset.univ := by dsimp only [sched]; exact if_pos ⟨rfl, rfl, rfl⟩
omit [FloatOps F] in
theorem duties_xfer (q : DmaSem sig) (h1 : 4 ≤ q.val) (h2 : q.val ≤ 15) : (sched (F := F) m).duties (dCell c q) 0 = {false} := by
  dsimp only [sched]; rw [if_neg (fun h => by cases h.2.2)]
  exact if_pos ⟨rfl, rfl, h1, h2⟩
omit [FloatOps F] in
theorem duties_later (g : GSem nD τ sig) : ∀ r, 1 ≤ r → (sched (F := F) m).duties g r = ∅ :=
  fun r hr => by dsimp only [sched]; rw [if_neg fun h => by omega, if_neg fun h => by omega]
omit [FloatOps F] in
theorem amount_bar (d : Bool) : (sched (F := F) m).amount (barCell c) 0 d = 1 := by dsimp only [sched]; exact if_pos rfl
omit [FloatOps F] in
theorem amount_xfer (q : DmaSem sig) (d : Bool) : (sched (F := F) m).amount (dCell c q) 0 d = N := by
  dsimp only [sched]; exact if_neg (fun h => by cases h)
omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_xfer (q : DmaSem sig) (h1 : 4 ≤ q.val) (h2 : q.val ≤ 15) : (sched (F := F) m).expect (dCell c q) 0 = N := by
  unfold Schedule.expect Schedule.amountOf; rw [duties_xfer m c q h1 h2, Finset.sum_singleton, amount_xfer]
omit [FloatOps F] in
theorem payload_bar_true : (sched (F := F) m).payload (barCell c) 0 true = barT c := by dsimp only [sched]; rw [if_pos rfl, if_pos rfl]
omit [FloatOps F] in
theorem payload_bar_false : (sched (F := F) m).payload (barCell c) 0 false = barF c := by
  dsimp only [sched]; rw [if_pos rfl]; exact if_neg Bool.false_ne_true
omit [FloatOps F] in
theorem payload_dma (q : DmaSem sig) (d : Bool) : (sched (F := F) m).payload (dCell c q) 0 d = dmaPay m c q.val := by
  dsimp only [sched]; rw [if_neg (fun h => by cases h)]; rfl
omit [FloatOps F] in
theorem rest_bar : bigSep ((sched (F := F) m).duties (barCell c) 0 \ ∅) (fun d => (sched (F := F) m).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
omit [FloatOps F] in
theorem rest_xfer (q : DmaSem sig) (h1 : 4 ≤ q.val) (h2 : q.val ≤ 15) :
    bigSep ((sched (F := F) m).duties (dCell c q) 0 \ ∅) (fun d => (sched (F := F) m).payload (dCell c q) 0 d) = dmaPay m c q.val := by
  rw [Finset.sdiff_empty, duties_xfer m c q h1 h2, bigSep_singleton, payload_dma]

end Sched

/-! ## What each device owes; the levels -/

/-- What is owed, cell by cell: the head of the list is paid first. -/
def owed : List (GSem nD τ sig × ℕ) → CellTallies nD τ sig Unit
  | [] => 0
  | p :: l => owed l + tallyAt p.1 () p.2

theorem owed_pos {l : List (GSem nD τ sig × ℕ)} {g : GSem nD τ sig} {u : Unit} (h : 0 < owed l g u) : ∃ p ∈ l, p.1 = g := by
  induction l with
  | nil => exact absurd h (Nat.lt_irrefl 0)
  | cons p l ih =>
    by_cases hp : g = p.1
    · exact ⟨p, List.mem_cons_self, hp.symm⟩
    · have : 0 < owed l g u := by
        unfold owed at h
        rw [Pi.add_apply, Finsupp.add_apply, tallyAt_apply, if_neg (fun h' => hp h'.1)] at h
        exact h
      obtain ⟨p', hp', e⟩ := ih this
      exact ⟨p', List.mem_cons_of_mem _ hp', e⟩

/-- The units of the barrier first, then the credits of the six transfers in program order. -/
abbrev sends2 (c : Dev nD) : List (GSem nD τ sig × ℕ) := [(dCell (nxt c) (dq 9), N), (dCell (prv c) (dq 15), N)]
abbrev sends1 (c : Dev nD) : List (GSem nD τ sig × ℕ) := (dCell (nxt c) (dq 8), N) :: (dCell (prv c) (dq 14), N) :: sends2 c
abbrev sends0 (c : Dev nD) : List (GSem nD τ sig × ℕ) := (dCell (nxt c) (dq 7), N) :: (dCell (prv c) (dq 13), N) :: sends1 c
abbrev debts (c : Dev nD) : List (GSem nD τ sig × ℕ) := (barCell (prv c), 1) :: (barCell (nxt c), 1) :: sends0 c

def L (g : GSem nD τ sig) : Finset Unit := if g.1.2 = .tc then {()} else ∅
/-- The receive cells of round `r` stand at `2 + r`, the barrier below them, every other cell at the bottom. -/
def lv (g : GSem nD τ sig) (_ : Unit) : ℕ :=
  match g.2 with
  | .reg _ => 1
  | .dma q => if q.val = 7 ∨ q.val = 13 then 2 else if q.val = 8 ∨ q.val = 14 then 3 else if q.val = 9 ∨ q.val = 15 then 4 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait below every cell owed is admitted. -/
theorem mayWait_of (c : Dev nD) (sm : SemLoc sig) (l : List (GSem nD τ sig × ℕ)) (n : ℕ) (hs : lv ((c : Thread nD τ), sm) () ≤ n)
    (hl : ∀ p ∈ l, p.1.1.2 = .tc ∧ n < lv p.1 ()) : (levAts L lv : sProp 𝕄) ⊢ MayWait (c : Thread nD τ) sm () (owed l) :=
  MayOwe.of_cut (L := L) (lev := lv) n
    (fun p hp => by rw [Finset.mem_singleton.mp hp, L_tc]; exact Finset.mem_singleton_self _)
    (fun g u hg => by
      obtain ⟨p, hp, rfl⟩ := owed_pos hg
      unfold L; rw [if_pos (hl p hp).1]; exact Finset.mem_singleton_self _)
    (fun p hp => by rw [Finset.mem_singleton.mp hp]; exact hs)
    (fun g u hg => by obtain ⟨p, hp, rfl⟩ := owed_pos hg; exact (hl p hp).2)

end Cert.KernelIdeal.Moe

end
-- ==== Proof.Steps.lean ====
/-
# The steps between devices, each once

The transfer to a neighbour and the wait on a transfer's cell, at symbolic devices and pieces; the splitting of the buffers.
-/
module

public import proofs.«01_k».proof.Proof.Ring

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
/-- A write through a view over one base and over another agree on the view's own elements. -/
theorem write_base {sp : Space} {s : Shape} {e : EltTy} (v : View sig .tc sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

/-- A transfer of a piece to device `n`: the source is held at some share, the target piece whole; what the receive cell hands over
    is that piece, rewritten by what the source reads. -/
theorem wp_send (c n n' : Dev nD) (hn : n' = n) (src dst : Memref sig .tc .hbm S2x512x1024 .f32) (qs qr : DmaSem sig)
    (hs1 : 4 ≤ qs.val) (hs2 : qs.val ≤ 15) (hs3 : qs.val ≠ 7 ∧ qs.val ≠ 8 ∧ qs.val ≠ 9 ∧ qs.val ≠ 13 ∧ qs.val ≠ 14 ∧ qs.val ≠ 15)
    (hr1 : 4 ≤ qr.val) (hr2 : qr.val ≤ 15) (κ₁ κ₂ : ℕ) (hN : dst.view.amount (SemLoc.dma qr : SemLoc sig) = N)
    {hsc : (dst : Memref sig (Dev.tc n' : Thread nD τ).2.kind .hbm S2x512x1024 .f32).view.ref.isScScratch = false}
    {hsrc : src.view.WordExact} {hdst : dst.view.WordExact}
    {hsem : DmaTarget.Typed .hbm (.dma qr) (.remote (Dev.tc n' : Thread nD τ) dst (.dma qs) hsc)}
    (q : PosShare TreeShare) (fs : Buf (Elt F) (src.view.loc (c : Thread nD τ))) (fd b : Buf (Elt F) (dst.view.loc (n : Thread nD τ)))
    (hpay : dmaPay m n qr.val = pts dst n fullShare (dst.view.write (Elt F) b (src.view.read (Elt F) fs) Finset.univ))
    (l : List (GSem nD τ sig × ℕ)) (W : Waits sig Unit)
    {α : Type} {Q : α → sProp 𝕄} {k : PUnit → Prog (TpuEff nD τ sig (Elt F) Λ₀ .tc) α} :
    iprop(cellInv ER (sched m) κ₁ (dCell c qs) ∗ cellInv ER (sched m) κ₂ (dCell n qr)
        ∗ pts src c q fs ∗ pts dst n fullShare fd ∗ owes (c : Thread nD τ) (owed ((dCell n qr, N) :: l)) W
        ∗ dutyTok ER (dCell c qs) 0 false ∗ reached ER (dCell c qs) 0 ∗ dutyTok ER (dCell n qr) 0 false ∗ reached ER (dCell n qr) 0)
      ⊢ iprop(((cred (tallyAt (dCell c qs) () N) ∗ owes (c : Thread nD τ) (owed l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma qs) hsc) (.dma qr) hsrc hdst hsem) k) Q) := by
  subst hn
  unfold pts
  exact Rounds.wp_send_pointsTo 𝒱₀ ER (sched m) (c : Thread nD τ) none (κ₁ := κ₁) (κ₂ := κ₂)
    (r₁ := 0) (r₂ := 0) (d₁ := false) (d₂ := false) (fd := fd)
    (by rw [duties_xfer m c qs hs1 hs2]; exact Finset.mem_singleton_self _) (by rw [duties_xfer m n' qr hr1 hr2]; exact Finset.mem_singleton_self _)
    () () N hN (amount_xfer m c qs false) (amount_xfer m n' qr false) (owed l) rfl (W := W)
    (by rw [payload_dma]; unfold dmaPay
        obtain ⟨h1, h2, h3, h4, h5, h6⟩ := hs3
        rw [if_neg h1, if_neg h2, if_neg h3, if_neg h4, if_neg h5, if_neg h6]
        iintro -; iempintro)
    (by rw [payload_dma, hpay]; unfold pts
        exact Entails.of_eq (pointsTo_congr (write_base dst.view fd b _)))

/-- A wait on a transfer's cell owing `l`, all of it above the cell: the position moves on and what the cell hands over comes. -/
theorem wp_wait (c : Dev nD) (q : DmaSem sig) (h1 : 4 ≤ q.val) (h2 : q.val ≤ 15) (κ : ℕ) (l : List (GSem nD τ sig × ℕ)) (W : Waits sig Unit)
    (hl : ∀ p ∈ l, p.1.1.2 = .tc ∧ lv (dCell c q) () < lv p.1 ())
    {sp sp' : Space} {src : Memref sig .tc sp S2x512x1024 .f32} {dst : Memref sig .tc sp' S2x512x1024 .f32} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (sched m) κ (dCell c q) ∗ cred (tallyAt (dCell c q) () N) ∗ owes (c : Thread nD τ) (owed l) W
        ∗ levAts L lv ∗ atPos ER (dCell c q) 0 ∅ 0)
      ⊢ iprop(((owes (c : Thread nD τ) (owed l) (insert (SemLoc.dma q, ()) W) ∗ atPos ER (dCell c q) (0 + 1) ∅ 0
            ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, #HL, Hat⟩ Hk
  iapply (Rounds.wp_wait_rest_token 𝒱₀ ER (sched m) (c : Thread nD τ) none (κ := κ)
      (wpE_waitDma2_eq 𝒱₀ (c : Thread nD τ) none Set.univ) (Set.mem_univ _) () (O := owed l) (W := W) (R := 0) (m := 0) (T := ∅)
      (by rw [Nat.zero_add, hN, expect_xfer m c q h1 h2])) $$ [Hc HO Hat]
  · isplitr; · iexact HI
    isplitl [Hc]; · iexact Hc
    isplitl [HO]; · iexact HO
    isplitr; · iapply (mayWait_of c (.dma q) l (lv (dCell c q) ()) le_rfl hl); iexact HL
    iexact Hat
  iintro ⟨HO, Hat, -, Hpay⟩
  iapply Hk
  isplitl [HO]; · iexact HO
  isplitl [Hat]; · iexact Hat
  iapply (Entails.of_eq (rest_xfer m c q h1 h2)); iexact Hpay

omit [FloatOps F] in
/-- A piece at the full share is the piece at two half shares. -/
theorem pts_halves {sp : Space} {s : Shape} (M : Memref sig .tc sp s .f32) (c : Dev nD) (f : Buf (Elt F) (M.view.loc (c : Thread nD τ))) :
    (pts M c fullShare f : sProp 𝕄) ⊣⊢ iprop(pts M c fullShare.left f ∗ pts M c fullShare.right f) :=
  pointsTo_share (PosShare.mem_left_op_right fullShare)

omit [FloatOps F] in
/-- Two disjoint sub-memrefs' elements carved out of a larger one. -/
theorem carve2 {ℓ : Loc nD τ sig} (q : PosShare TreeShare) (f : Buf (Elt F) ℓ) (A B : Finset (Idx ℓ)) (h : Disjoint A B) :
    (ℓ ↦{q} f : sProp 𝕄) ⊢ iprop((ℓ ↦[A]{q} f) ∗ (ℓ ↦[B]{q} f)) := by
  have h1 := (pointsTo_split_subset (Ix := Unit) (Val := Elt F) (Name := ℕ) (U := UU) (Lvl := ℕ) (q := q) (f := f) (Finset.subset_univ (A ∪ B))).1
  have h2 := (pointsTo_union (Ix := Unit) (Val := Elt F) (Name := ℕ) (U := UU) (Lvl := ℕ) (q := q) (f := f) h).1
  iintro H
  ihave H := h1 $$ H
  icases H with ⟨H, -⟩
  iapply h2; iexact H

omit [FloatOps F] in
theorem carve3 {ℓ : Loc nD τ sig} (q : PosShare TreeShare) (f : Buf (Elt F) ℓ) (A B C : Finset (Idx ℓ)) (h1 : Disjoint A B) (h2 : Disjoint A C) (h3 : Disjoint B C) :
    (ℓ ↦{q} f : sProp 𝕄) ⊢ iprop((ℓ ↦[A]{q} f) ∗ (ℓ ↦[B]{q} f) ∗ (ℓ ↦[C]{q} f)) := by
  have hu := (pointsTo_union (Ix := Unit) (Val := Elt F) (Name := ℕ) (U := UU) (Lvl := ℕ) (q := q) (f := f) h3).1
  iintro H
  ihave H := (carve2 q f A (B ∪ C) (Finset.disjoint_union_right.mpr ⟨h1, h2⟩)) $$ H
  icases H with ⟨HA, HB⟩
  isplitl [HA]; · iexact HA
  iapply hu; iexact HB

/-- The pieces of a travelling buffer are disjoint, and so are the two halves of the experts. -/
theorem disj01 (b : Memref sig .tc .hbm S3x2x512x1024 .f32) : Disjoint (pc0 b).view.set (pc1 b).view.set := by
  rw [pc0_set, pc1_set]
  exact View.disjoint_setOn _ (Rect.unit_disjoint 0 (by decide))
theorem disj02 (b : Memref sig .tc .hbm S3x2x512x1024 .f32) : Disjoint (pc0 b).view.set (pc2 b).view.set := by
  rw [pc0_set, pc2_set]
  exact View.disjoint_setOn _ (Rect.unit_disjoint 0 (by decide))
theorem disj12 (b : Memref sig .tc .hbm S3x2x512x1024 .f32) : Disjoint (pc1 b).view.set (pc2 b).view.set := by
  rw [pc1_set, pc2_set]
  exact View.disjoint_setOn _ (Rect.unit_disjoint 0 (by decide))
theorem disjE : Disjoint eLo.view.set eHi.view.set := by
  show Disjoint (eM.view.slice (Rect.unit (s := S4x512x1024) ![0, 0, 0] S2x512x1024.size inb_S4x512x1024_S2x512x1024_0_0_0)).set
    (eM.view.slice (Rect.unit (s := S4x512x1024) ![2, 0, 0] S2x512x1024.size inb_S4x512x1024_S2x512x1024_2_0_0)).set
  rw [View.set_slice, View.set_slice]
  exact View.disjoint_setOn _ (Rect.unit_disjoint 0 (by decide))

omit [FloatOps F] in
/-- A travelling buffer, handed over in its pieces. -/
theorem pieces (b : Memref sig .tc .hbm S3x2x512x1024 .f32) (c : Dev nD) (f : Buf (Elt F) (b.view.loc (c : Thread nD τ))) :
    (b.view.loc (c : Thread nD τ) ↦{fullShare} f : sProp 𝕄)
      ⊢ iprop((∃ f, pts (pc0 b) c fullShare f) ∗ (∃ f, pts (pc1 b) c fullShare f) ∗ (∃ f, pts (pc2 b) c fullShare f)) := by
  iintro H
  ihave H := (carve3 fullShare f (pc0 b).view.set (pc1 b).view.set (pc2 b).view.set (disj01 b) (disj02 b) (disj12 b)) $$ H
  icases H with ⟨H0, H1, H2⟩
  isplitl [H0]; · iexists f; unfold pts; iexact H0
  isplitl [H1]; · iexists f; unfold pts; iexact H1
  iexists f; unfold pts; iexact H2

end Cert.KernelIdeal.Moe

end
-- ==== Proof.Local.lean ====
/-
# The steps inside one device, each once

The copy of one expert's weights into a slot of the work buffer, the wait on it, the load of a slot, and the load and the store
of the result's staging buffer.
-/
module

public import proofs.«01_k».proof.Proof.Steps
public import Idealize.ShloMosaic.Lib.Pipeline.Value

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EC : UEmb Counters (MT nD τ sig Unit (Elt F) ℕ UU ℕ) := countersEmb (U := UU)

/-- The two slots of the work buffer. -/
abbrev RW0 : Rect S2x512x1024 := Rect.unit (s := S2x512x1024) ![0, 0, 0] S1x512x1024.size inb_S2x512x1024_S1x512x1024_0_0_0
abbrev RW1 : Rect S2x512x1024 := Rect.unit (s := S2x512x1024) ![1, 0, 0] S1x512x1024.size inb_S2x512x1024_S1x512x1024_1_0_0
abbrev wk0 : Memref sig .tc .vmem S512x1024 .f32 := (wM.slice RW0 (fun _ => rfl)).squeeze S512x1024 squeezes_S1x512x1024_S512x1024
abbrev wk1 : Memref sig .tc .vmem S512x1024 .f32 := (wM.slice RW1 (fun _ => rfl)).squeeze S512x1024 squeezes_S1x512x1024_S512x1024

theorem wk0_set : wk0.view.set = wM.view.setOn RW0.set := by
  show ((wM.view.slice RW0).reshape _ _).set = _
  rw [View.set_reshape, View.set_slice]; rfl
theorem wk1_set : wk1.view.set = wM.view.setOn RW1.set := by
  show ((wM.view.slice RW1).reshape _ _).set = _
  rw [View.set_reshape, View.set_slice]; rfl

/-- One expert's weights. -/
abbrev Mat (F : FTy → Type) : Type := S512x1024.Idx → Elt F .f32

/-- A slot holding the matrix `E`. -/
def holds {sp : Space} (w : Memref sig .tc sp S512x1024 .f32) (c : Dev nD) (E : Mat F) : sProp 𝕄 :=
  iprop(∃ f, ⌜w.view.read (Elt F) f = E⌝ ∗ pts w c fullShare f)

/-- The matrix as the loads of a slot return it. -/
def lift1 (E : Mat F) : S1x512x1024.Idx → Elt F .f32 := shapeCast S1x512x1024 E (by decide)

omit [FloatOps F] in
theorem cast_lift1 (E : Mat F) : shapeCast S512x1024 (lift1 E) shapeCasts_S1x512x1024_S512x1024 = E :=
  shapeCast_shapeCast _ _ _

/-- What one copy into a slot credits. -/
abbrev NW : ℕ := wk0.view.dmaCredit
theorem NW_pos : 0 < NW := View.dmaCredit_pos _ (by decide)

/-- What a device owes, whatever it has waited on. -/
def owesE (c : Dev nD) (l : List (GSem nD τ sig × ℕ)) : sProp 𝕄 := iprop(∃ W, owes (c : Thread nD τ) (owed l) W)

/-- A copy under way into slot `w`, completing on cell `q`, that will leave the matrix `E` there. -/
def fly (c : Dev nD) (q : DmaSem sig) (w : Memref sig .tc .vmem S512x1024 .f32) (E : Mat F) : sProp 𝕄 :=
  Transfers.Flight EC (c : Thread nD τ) (.dma q) () NW (holds w c E)

/-- A copy of one expert's weights into a slot. -/
theorem wp_start (c : Dev nD) (src : Memref sig .tc .hbm S512x1024 .f32) (w : Memref sig .tc .vmem S512x1024 .f32) (q : DmaSem sig)
    {hsrc : src.view.WordExact} {hdst : w.view.WordExact}
    {hsem : DmaTarget.Typed (nD := nD) (p := (.tc : Proc τ)) .hbm (.dma q) (.here w)}
    (hN : w.view.amount (SemLoc.dma q : SemLoc sig) = NW)
    (p : PosShare TreeShare) (fs : Buf (Elt F) (src.view.loc (c : Thread nD τ)))
    {α : Type} {Q : α → sProp 𝕄} {k : PUnit → Prog (TpuEff nD τ sig (Elt F) Λ₀ .tc) α} :
    (pts src c p fs) ⊢ iprop((∃ E, holds w c E) -∗ semVal (dCell c q) 0
      -∗ (fly c q w (src.view.read (Elt F) fs) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here w) (.dma q) hsrc hdst hsem) k) Q) := by
  iintro Hs Hw Hv Hk
  unfold holds pts
  icases Hw with ⟨%E, %fd, -, Hd⟩
  iapply (Transfers.wp_dmaLocal (Ix := Unit) EC 𝒱₀ (c : Thread nD τ) none (src := src) (dst := w) (sm := .dma q) (q := p) (fs := fs) (fd := fd)
    () NW hN NW_pos (Finset.Subset.refl _)) $$ [Hs Hd Hv]
  · isplitl [Hs]; · iexact Hs
    isplitl [Hd]; · iexact Hd
    iexact Hv
  iintro HF
  iapply Hk
  unfold fly
  iapply (Transfers.Flight_mono (Ix := Unit) EC (c : Thread nD τ) ?_) $$ HF
  iintro ⟨H, -⟩
  unfold holds pts
  iexists (w.view.write (Elt F) fd (src.view.read (Elt F) fs) Finset.univ)
  isplitr
  · ipureintro; exact View.read_write_univ _ _
  · iexact H

/-- The wait on such a copy, owing `l`, all of it above the cell. -/
theorem wp_done (c : Dev nD) (q : DmaSem sig) (w : Memref sig .tc .vmem S512x1024 .f32) (E : Mat F) (l : List (GSem nD τ sig × ℕ))
    (hl : ∀ p ∈ l, p.1.1.2 = .tc ∧ lv (dCell c q) () < lv p.1 ())
    {sp sp' : Space} {src : Memref sig .tc sp S512x1024 .f32} {dst : Memref sig .tc sp' S512x1024 .f32} {hsrc : src.view.WordExact} {hdst : dst.view.WordExact} (hN : dst.view.dmaCredit = NW)
    {α : Type} {Q : α → sProp 𝕄} {k : PUnit → Prog (TpuEff nD τ sig (Elt F) Λ₀ .tc) α} :
    fly c q w E ⊢ iprop(owesE c l -∗ levAts L lv
      -∗ (holds w c E -∗ semVal (dCell c q) 0 -∗ owesE c l -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  iintro HF HO #HL Hk
  unfold owesE fly
  icases HO with ⟨%W, HO⟩
  iapply (Transfers.wp_waitLocalO (Ix := Unit) EC 𝒱₀ (c : Thread nD τ) none () hN (O := owed l) (W := W)) $$ [HF HO]
  · isplitl [HF]; · iexact HF
    isplitl [HO]; · iexact HO
    iapply (mayWait_of c (.dma q) l (lv (dCell c q) ()) le_rfl hl); iexact HL
  iintro ⟨HD, Hv, HO⟩
  iapply Hk $$ HD Hv
  iexists _; iexact HO

omit [FloatOps F] in
theorem read_wk0 (f : wM.view.ty.Contents (Elt F)) : wM.view.readAt (Elt F) RW0.toLoadRect f = lift1 (wk0.view.read (Elt F) f) := by
  unfold lift1
  exact (shapeCast_shapeCast (s := S1x512x1024) (t := S512x1024) _ squeezes_S1x512x1024_S512x1024.numel_eq _).symm
omit [FloatOps F] in
theorem read_wk1 (f : wM.view.ty.Contents (Elt F)) : wM.view.readAt (Elt F) RW1.toLoadRect f = lift1 (wk1.view.read (Elt F) f) := by
  unfold lift1
  exact (shapeCast_shapeCast (s := S1x512x1024) (t := S512x1024) _ squeezes_S1x512x1024_S512x1024.numel_eq _).symm

/-- The loads of the slots. -/
theorem wp_slot0 (c : Dev nD) (E : Mat F) {hl : wM.view.LoadsAt RW0.toLoadRect}
    {α : Type} {Q : α → sProp 𝕄} {k : (RW0.toLoadRect.shape.Idx → Elt F .f32) → Prog (TpuEff nD τ sig (Elt F) Λ₀ .tc) α} :
    holds wk0 c E ⊢ iprop((holds wk0 c E -∗ wp frame (wpE (defs₀ (F := F)) 𝒱₀ (c : Thread nD τ) none) Set.univ (k (lift1 E)) Q)
      -∗ wp frame (wpE (defs₀ (F := F)) 𝒱₀ (c : Thread nD τ) none) Set.univ (.op (.load wM RW0.toLoadRect hl) k) Q) := by
  iintro H Hk
  unfold holds pts
  icases H with ⟨%f, %hf, H⟩
  iapply (wp_load 𝒱₀ (c : Thread nD τ) none Set.univ (m := wM) (r := RW0.toLoadRect) (S := wk0.view.set) (q := fullShare) (f := f)
    (Finset.Subset.antisymm_iff.mp wk0_set).2) $$ H
  iintro H
  rw [read_wk0, hf]
  iapply Hk
  iexists f
  isplitr; · ipureintro; exact hf
  iexact H
theorem wp_slot1 (c : Dev nD) (E : Mat F) {hl : wM.view.LoadsAt RW1.toLoadRect}
    {α : Type} {Q : α → sProp 𝕄} {k : (RW1.toLoadRect.shape.Idx → Elt F .f32) → Prog (TpuEff nD τ sig (Elt F) Λ₀ .tc) α} :
    holds wk1 c E ⊢ iprop((holds wk1 c E -∗ wp frame (wpE (defs₀ (F := F)) 𝒱₀ (c : Thread nD τ) none) Set.univ (k (lift1 E)) Q)
      -∗ wp frame (wpE (defs₀ (F := F)) 𝒱₀ (c : Thread nD τ) none) Set.univ (.op (.load wM RW1.toLoadRect hl) k) Q) := by
  iintro H Hk
  unfold holds pts
  icases H with ⟨%f, %hf, H⟩
  iapply (wp_load 𝒱₀ (c : Thread nD τ) none Set.univ (m := wM) (r := RW1.toLoadRect) (S := wk1.view.set) (q := fullShare) (f := f)
    (Finset.Subset.antisymm_iff.mp wk1_set).2) $$ H
  iintro H
  rw [read_wk1, hf]
  iapply Hk
  iexists f
  isplitr; · ipureintro; exact hf
  iexact H

/-- The result's staging buffer at contents `v`. -/
def acc (c : Dev nD) (v : S2048x1024.Idx → Elt F .f32) : sProp 𝕄 := iprop(((c : Thread nD τ).loc cc0_stg3_0) ↦{fullShare} v)

abbrev RO : Rect S2048x1024 := Rect.unit (s := S2048x1024) ![0, 0] S2048x1024.size inb_S2048x1024_S2048x1024_0_0

theorem off2 : (![0, 0] : Fin 2 → ℕ) = fun _ => 0 := by funext a; fin_cases a <;> rfl

omit [FloatOps F] in
theorem read_oM (v : oM.view.ty.Contents (Elt F)) : oM.view.readAt (Elt F) RO.toLoadRect v = v :=
  Memref.readAt_unit_zero (Elt F) cc0_stg3_0 off2 _ v
omit [FloatOps F] in
theorem write_oM (v w : oM.view.ty.Contents (Elt F)) : (oM.access RO).write (Elt F) v w Finset.univ = w :=
  Memref.write_access_unit_zero_univ (Elt F) cc0_stg3_0 off2 _ v w

theorem wp_ldAcc (c : Dev nD) (v : S2048x1024.Idx → Elt F .f32) {hl : oM.view.LoadsAt RO.toLoadRect}
    {α : Type} {Q : α → sProp 𝕄} {k : (RO.toLoadRect.shape.Idx → Elt F .f32) → Prog (TpuEff nD τ sig (Elt F) Λ₀ .tc) α} :
    acc c v ⊢ iprop((acc c v -∗ wp frame (wpE (defs₀ (F := F)) 𝒱₀ (c : Thread nD τ) none) Set.univ (k v) Q)
      -∗ wp frame (wpE (defs₀ (F := F)) 𝒱₀ (c : Thread nD τ) none) Set.univ (.op (.load oM RO.toLoadRect hl) k) Q) := by
  iintro H Hk
  unfold acc
  iapply (wp_load 𝒱₀ (c : Thread nD τ) none Set.univ (m := oM) (r := RO.toLoadRect) (q := fullShare) (f := v) (S := Finset.univ) (Finset.subset_univ _)) $$ H
  iintro H
  rw [read_oM]
  iapply Hk; iexact H

theorem wp_stAcc (c : Dev nD) (v w w' : S2048x1024.Idx → Elt F .f32) (hw : w = w') {Mk : Finset RO.shape.Idx} (hMk : Mk = Finset.univ)
    {hx : (oM.access RO).Stores Mk} {hm : Mk = Finset.univ ∨ ∀ a, RO.stride a = 1}
    {α : Type} {Q : α → sProp 𝕄} {k : PUnit → Prog (TpuEff nD τ sig (Elt F) Λ₀ .tc) α} :
    acc c v ⊢ iprop((acc c w' -∗ wp frame (wpE (defs₀ (F := F)) 𝒱₀ (c : Thread nD τ) none) Set.univ (k ⟨⟩) Q)
      -∗ wp frame (wpE (defs₀ (F := F)) 𝒱₀ (c : Thread nD τ) none) Set.univ (.op (.store oM RO w Mk hx hm) k) Q) := by
  subst hw hMk
  iintro H Hk
  unfold acc
  iapply (wp_store 𝒱₀ (c : Thread nD τ) none Set.univ (m := oM) (r := RO) (w := w) (Mk := Finset.univ) (f := v) (S := Finset.univ) (Finset.subset_univ _)) $$ H
  iintro H
  rw [write_oM]
  iapply Hk; iexact H

end Cert.KernelIdeal.Moe

end
-- ==== Proof.Slots.lean ====
/-
# One expert's weights at a time

The slices that the copies inside a device read: the four experts of the device itself, and the two experts of each piece of the
travelling buffers. Each piece, and the experts themselves, are carved into these slices. The chain of accumulators that the stores
leave in the result's staging buffer.
-/
module

public import proofs.«01_k».proof.Proof.Local

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slices -/

abbrev RE0 : Rect S4x512x1024 := Rect.unit (s := S4x512x1024) ![0, 0, 0] S1x512x1024.size inb_S4x512x1024_S1x512x1024_0_0_0
abbrev RE1 : Rect S4x512x1024 := Rect.unit (s := S4x512x1024) ![1, 0, 0] S1x512x1024.size inb_S4x512x1024_S1x512x1024_1_0_0
abbrev RE2 : Rect S4x512x1024 := Rect.unit (s := S4x512x1024) ![2, 0, 0] S1x512x1024.size inb_S4x512x1024_S1x512x1024_2_0_0
abbrev RE3 : Rect S4x512x1024 := Rect.unit (s := S4x512x1024) ![3, 0, 0] S1x512x1024.size inb_S4x512x1024_S1x512x1024_3_0_0
abbrev e0 : Memref sig .tc .hbm S512x1024 .f32 := (eM.slice RE0 (fun _ => rfl)).squeeze S512x1024 squeezes_S1x512x1024_S512x1024
abbrev e1 : Memref sig .tc .hbm S512x1024 .f32 := (eM.slice RE1 (fun _ => rfl)).squeeze S512x1024 squeezes_S1x512x1024_S512x1024
abbrev e2 : Memref sig .tc .hbm S512x1024 .f32 := (eM.slice RE2 (fun _ => rfl)).squeeze S512x1024 squeezes_S1x512x1024_S512x1024
abbrev e3 : Memref sig .tc .hbm S512x1024 .f32 := (eM.slice RE3 (fun _ => rfl)).squeeze S512x1024 squeezes_S1x512x1024_S512x1024

abbrev R00 : Rect S3x2x512x1024 := Rect.unit (s := S3x2x512x1024) ![0, 0, 0, 0] S1x1x512x1024.size inb_S3x2x512x1024_S1x1x512x1024_0_0_0_0
abbrev R01 : Rect S3x2x512x1024 := Rect.unit (s := S3x2x512x1024) ![0, 1, 0, 0] S1x1x512x1024.size inb_S3x2x512x1024_S1x1x512x1024_0_1_0_0
abbrev R10 : Rect S3x2x512x1024 := Rect.unit (s := S3x2x512x1024) ![1, 0, 0, 0] S1x1x512x1024.size inb_S3x2x512x1024_S1x1x512x1024_1_0_0_0
abbrev R11 : Rect S3x2x512x1024 := Rect.unit (s := S3x2x512x1024) ![1, 1, 0, 0] S1x1x512x1024.size inb_S3x2x512x1024_S1x1x512x1024_1_1_0_0
abbrev R20 : Rect S3x2x512x1024 := Rect.unit (s := S3x2x512x1024) ![2, 0, 0, 0] S1x1x512x1024.size inb_S3x2x512x1024_S1x1x512x1024_2_0_0_0
abbrev R21 : Rect S3x2x512x1024 := Rect.unit (s := S3x2x512x1024) ![2, 1, 0, 0] S1x1x512x1024.size inb_S3x2x512x1024_S1x1x512x1024_2_1_0_0
section
variable (b : Memref sig .tc .hbm S3x2x512x1024 .f32)
abbrev s00 : Memref sig .tc .hbm S512x1024 .f32 := (b.slice R00 (fun _ => rfl)).squeeze S512x1024 squeezes_S1x1x512x1024_S512x1024
abbrev s01 : Memref sig .tc .hbm S512x1024 .f32 := (b.slice R01 (fun _ => rfl)).squeeze S512x1024 squeezes_S1x1x512x1024_S512x1024
abbrev s10 : Memref sig .tc .hbm S512x1024 .f32 := (b.slice R10 (fun _ => rfl)).squeeze S512x1024 squeezes_S1x1x512x1024_S512x1024
abbrev s11 : Memref sig .tc .hbm S512x1024 .f32 := (b.slice R11 (fun _ => rfl)).squeeze S512x1024 squeezes_S1x1x512x1024_S512x1024
abbrev s20 : Memref sig .tc .hbm S512x1024 .f32 := (b.slice R20 (fun _ => rfl)).squeeze S512x1024 squeezes_S1x1x512x1024_S512x1024
abbrev s21 : Memref sig .tc .hbm S512x1024 .f32 := (b.slice R21 (fun _ => rfl)).squeeze S512x1024 squeezes_S1x1x512x1024_S512x1024
end

/-- A sub-slice's elements are those of its rectangle. -/
theorem sub_set {sp : Space} {S t : Shape} (b : Memref sig .tc sp S .f32) (r : Rect S) (hu : ∀ a, r.stride a = 1) (h : r.shape.Squeezes t) :
    ((b.slice r hu).squeeze t h).view.set = b.view.setOn r.set := by
  show ((b.view.slice r).reshape _ _).set = _
  rw [View.set_reshape, View.set_slice]; rfl

omit [FloatOps F] in
/-- Two disjoint sub-slices carved out of a set of elements that contains both. -/
theorem carve {ℓ : Loc nD τ sig} (q : PosShare TreeShare) (f : Buf (Elt F) ℓ) (S A B : Finset (Idx ℓ)) (hA : A ⊆ S) (hB : B ⊆ S) (h : Disjoint A B) :
    (ℓ ↦[S]{q} f : sProp 𝕄) ⊢ iprop((ℓ ↦[A]{q} f) ∗ (ℓ ↦[B]{q} f)) := by
  have h1 := (pointsTo_split_subset (Ix := Unit) (Val := Elt F) (Name := ℕ) (U := UU) (Lvl := ℕ) (q := q) (f := f) (Finset.union_subset hA hB)).1
  have h2 := (pointsTo_union (Ix := Unit) (Val := Elt F) (Name := ℕ) (U := UU) (Lvl := ℕ) (q := q) (f := f) h).1
  iintro H
  ihave H := h1 $$ H
  icases H with ⟨H, -⟩
  iapply h2; iexact H

/-- A rectangle whose extents lie within another's is a subset of it. -/
theorem rect_sub {s : Shape} {off size off' size' : Fin s.rank → ℕ} {inb inb'} (h : ∀ a, off' a ≤ off a ∧ off a + size a ≤ off' a + size' a) :
    (Rect.unit (s := s) off size inb).set ⊆ (Rect.unit (s := s) off' size' inb').set := by
  intro i hi
  rw [Rect.mem_set_unit] at hi ⊢
  intro a; have := hi a; have := h a; omega

section
variable (b : Memref sig .tc .hbm S3x2x512x1024 .f32) (c : Dev nD) (q : PosShare TreeShare) (f : Buf (Elt F) (b.view.loc (c : Thread nD τ)))
omit [FloatOps F] in
theorem carve_pc0 : (pts (pc0 b) c q f : sProp 𝕄) ⊢ iprop(pts (s00 b) c q f ∗ pts (s01 b) c q f) := by
  unfold pts
  have hA : (s00 b).view.set ⊆ (pc0 b).view.set := by rw [pc0_set, sub_set]; exact Finset.map_subset_map.mpr (rect_sub (by decide))
  have hB : (s01 b).view.set ⊆ (pc0 b).view.set := by rw [pc0_set, sub_set]; exact Finset.map_subset_map.mpr (rect_sub (by decide))
  have hd : Disjoint (s00 b).view.set (s01 b).view.set := by
    rw [sub_set, sub_set]; exact View.disjoint_setOn _ (Rect.unit_disjoint 1 (by decide))
  exact carve (F := F) (ℓ := b.view.loc (c : Thread nD τ)) q f _ _ _ hA hB hd
omit [FloatOps F] in
theorem carve_pc1 : (pts (pc1 b) c q f : sProp 𝕄) ⊢ iprop(pts (s10 b) c q f ∗ pts (s11 b) c q f) := by
  unfold pts
  have hA : (s10 b).view.set ⊆ (pc1 b).view.set := by rw [pc1_set, sub_set]; exact Finset.map_subset_map.mpr (rect_sub (by decide))
  have hB : (s11 b).view.set ⊆ (pc1 b).view.set := by rw [pc1_set, sub_set]; exact Finset.map_subset_map.mpr (rect_sub (by decide))
  have hd : Disjoint (s10 b).view.set (s11 b).view.set := by
    rw [sub_set, sub_set]; exact View.disjoint_setOn _ (Rect.unit_disjoint 1 (by decide))
  exact carve (F := F) (ℓ := b.view.loc (c : Thread nD τ)) q f _ _ _ hA hB hd
omit [FloatOps F] in
theorem carve_pc2 : (pts (pc2 b) c q f : sProp 𝕄) ⊢ iprop(pts (s20 b) c q f ∗ pts (s21 b) c q f) := by
  unfold pts
  have hA : (s20 b).view.set ⊆ (pc2 b).view.set := by rw [pc2_set, sub_set]; exact Finset.map_subset_map.mpr (rect_sub (by decide))
  have hB : (s21 b).view.set ⊆ (pc2 b).view.set := by rw [pc2_set, sub_set]; exact Finset.map_subset_map.mpr (rect_sub (by decide))
  have hd : Disjoint (s20 b).view.set (s21 b).view.set := by
    rw [sub_set, sub_set]; exact View.disjoint_setOn _ (Rect.unit_disjoint 1 (by decide))
  exact carve (F := F) (ℓ := b.view.loc (c : Thread nD τ)) q f _ _ _ hA hB hd
end

section
variable (c : Dev nD) (q : PosShare TreeShare) (f : Buf (Elt F) (eM.view.loc (c : Thread nD τ)))

theorem eLo_set : eLo.view.set = eM.view.setOn (Rect.unit (s := S4x512x1024) ![0, 0, 0] S2x512x1024.size inb_S4x512x1024_S2x512x1024_0_0_0).set := by
  show (eM.view.slice (Rect.unit (s := S4x512x1024) ![0, 0, 0] S2x512x1024.size inb_S4x512x1024_S2x512x1024_0_0_0)).set = _
  rw [View.set_slice]; rfl
theorem eHi_set : eHi.view.set = eM.view.setOn (Rect.unit (s := S4x512x1024) ![2, 0, 0] S2x512x1024.size inb_S4x512x1024_S2x512x1024_2_0_0).set := by
  show (eM.view.slice (Rect.unit (s := S4x512x1024) ![2, 0, 0] S2x512x1024.size inb_S4x512x1024_S2x512x1024_2_0_0)).set = _
  rw [View.set_slice]; rfl

omit [FloatOps F] in
/-- The experts, half by half. -/
theorem carve_eM : (eM.view.loc (c : Thread nD τ) ↦{q} f : sProp 𝕄) ⊢ iprop(pts eLo c q f ∗ pts eHi c q f) := by
  unfold pts
  exact carve2 q f eLo.view.set eHi.view.set disjE
omit [FloatOps F] in
theorem carve_eLo : (pts eLo c q f : sProp 𝕄) ⊢ iprop(pts e0 c q f ∗ pts e1 c q f) := by
  unfold pts
  have hA : e0.view.set ⊆ eLo.view.set := by rw [eLo_set, sub_set]; exact Finset.map_subset_map.mpr (rect_sub (by decide))
  have hB : e1.view.set ⊆ eLo.view.set := by rw [eLo_set, sub_set]; exact Finset.map_subset_map.mpr (rect_sub (by decide))
  have hd : Disjoint e0.view.set e1.view.set := by rw [sub_set, sub_set]; exact View.disjoint_setOn _ (Rect.unit_disjoint 0 (by decide))
  exact carve (F := F) (ℓ := eM.view.loc (c : Thread nD τ)) q f _ _ _ hA hB hd
omit [FloatOps F] in
theorem carve_eHi : (pts eHi c q f : sProp 𝕄) ⊢ iprop(pts e2 c q f ∗ pts e3 c q f) := by
  unfold pts
  have hA : e2.view.set ⊆ eHi.view.set := by rw [eHi_set, sub_set]; exact Finset.map_subset_map.mpr (rect_sub (by decide))
  have hB : e3.view.set ⊆ eHi.view.set := by rw [eHi_set, sub_set]; exact Finset.map_subset_map.mpr (rect_sub (by decide))
  have hd : Disjoint e2.view.set e3.view.set := by rw [sub_set, sub_set]; exact View.disjoint_setOn _ (Rect.unit_disjoint 0 (by decide))
  exact carve (F := F) (ℓ := eM.view.loc (c : Thread nD τ)) q f _ _ _ hA hB hd
end

theorem disjW : Disjoint wk0.view.set wk1.view.set := by
  rw [wk0_set, wk1_set]
  exact View.disjoint_setOn _ (Rect.unit_disjoint 0 (by decide))

omit [FloatOps F] in
/-- The work buffer, slot by slot. -/
theorem slots (c : Dev nD) (f : Buf (Elt F) (wM.view.loc (c : Thread nD τ))) :
    (wM.view.loc (c : Thread nD τ) ↦{fullShare} f : sProp 𝕄)
      ⊢ iprop(holds wk0 c (wk0.view.read (Elt F) f) ∗ holds wk1 c (wk1.view.read (Elt F) f)) := by
  iintro H
  ihave H := (carve2 fullShare f wk0.view.set wk1.view.set disjW) $$ H
  icases H with ⟨H0, H1⟩
  unfold holds pts
  isplitl [H0]
  · iexists f; isplitr; · (ipureintro; rfl)
    iexact H0
  · iexists f; isplitr; · (ipureintro; rfl)
    iexact H1

omit [FloatOps F] in
/-- The two slots, each at any contents, are the work buffer at some contents. -/
theorem unslots (c : Dev nD) (E0 E1 : Mat F) :
    (iprop(holds wk0 c E0 ∗ holds wk1 c E1) : sProp 𝕄) ⊢ iprop(∃ f : Buf (Elt F) (wM.view.loc (c : Thread nD τ)), wM.view.loc (c : Thread nD τ) ↦{fullShare} f) := by
  have hu : wk0.view.set ∪ wk1.view.set = Finset.univ := by
    rw [wk0_set, wk1_set]
    refine Finset.eq_univ_iff_forall.mpr fun (i : S2x512x1024.Idx) => ?_
    by_cases h : (i 0).val = 0
    · refine Finset.mem_union_left _ (Finset.mem_map.mpr ⟨i, Rect.mem_set_unit.mpr fun a => ?_, rfl⟩)
      have := (i a).isLt; fin_cases a <;> simp_all
    · refine Finset.mem_union_right _ (Finset.mem_map.mpr ⟨i, Rect.mem_set_unit.mpr fun a => ?_, rfl⟩)
      have := (i a).isLt; fin_cases a <;> simp_all <;> omega
  unfold holds pts
  iintro ⟨⟨%f, -, H0⟩, %g, -, H1⟩
  iexists ((wk1.view.set).piecewise g f)
  rw [← hu]
  iapply (pointsTo_join disjW)
  isplitl [H0]; · iexact H0
  iexact H1

end Cert.KernelIdeal.Moe

end
-- ==== Proof.Ghost.lean ====
/-
# The steps between devices, with their records
-/
module

public import proofs.«01_k».proof.Proof.Steps
public import proofs.«01_k».proof.Proof.Local
public import proofs.«01_k».proof.Proof.Slots

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The protocol's invariants, and that every cell's first round is open. -/
def records : sProp 𝕄 :=
  iprop((bigSep Finset.univ fun ck : Dev nD × Fin 13 => cellInv ER (sched m) (K ck) (kcell ck))
    ∗ bigSep Finset.univ fun ck : Dev nD × Fin 13 => reached ER (kcell ck) 0)
instance records_persistent : BI.Persistent (records m K) := by unfold records; infer_instance

omit [FloatOps F] in
theorem rec_inv (ck : Dev nD × Fin 13) : records m K ⊢ cellInv ER (sched m) (K ck) (kcell ck) := by
  have h : (bigSep Finset.univ fun ck : Dev nD × Fin 13 => (cellInv ER (sched m) (K ck) (kcell ck) : sProp 𝕄)) ⊢ cellInv ER (sched m) (K ck) (kcell ck) :=
    bigSep_elim (Finset.mem_univ ck)
  unfold records
  iintro ⟨#HI, -⟩
  iapply h; iexact HI
omit [FloatOps F] in
theorem rec_reached (ck : Dev nD × Fin 13) : records m K ⊢ reached ER (kcell ck) 0 := by
  have h : (bigSep Finset.univ fun ck : Dev nD × Fin 13 => (reached ER (kcell ck) 0 : sProp 𝕄)) ⊢ reached ER (kcell ck) 0 :=
    bigSep_elim (Finset.mem_univ ck)
  unfold records
  iintro ⟨-, #HR⟩
  iapply h; iexact HR

/-- What a transfer from `c` to `n` needs: the two duties it pays, and the position of its send cell. -/
def ticket (c n : Dev nD) (qs qr : DmaSem sig) : sProp 𝕄 :=
  iprop(dutyTok ER (dCell c qs) 0 false ∗ dutyTok ER (dCell n qr) 0 false ∗ atPos ER (dCell c qs) 0 ∅ 0)
/-- What a wait on a transfer's cell needs: the credit and the position. -/
def due (c : Dev nD) (q : DmaSem sig) : sProp 𝕄 :=
  iprop(cred (tallyAt (dCell c q) () N) ∗ atPos ER (dCell c q) 0 ∅ 0)

theorem wp_sendC (c n n' : Dev nD) (hn : n' = n) (src dst : Memref sig .tc .hbm S2x512x1024 .f32) (ks kr : Fin 13) (qs qr : DmaSem sig)
    (hks : ksem ks = .dma qs) (hkr : ksem kr = .dma qr)
    (hs1 : 4 ≤ qs.val) (hs2 : qs.val ≤ 15) (hs3 : qs.val ≠ 7 ∧ qs.val ≠ 8 ∧ qs.val ≠ 9 ∧ qs.val ≠ 13 ∧ qs.val ≠ 14 ∧ qs.val ≠ 15)
    (hr1 : 4 ≤ qr.val) (hr2 : qr.val ≤ 15) (hN : dst.view.amount (SemLoc.dma qr : SemLoc sig) = N)
    {hsc : (dst : Memref sig (Dev.tc n' : Thread nD τ).2.kind .hbm S2x512x1024 .f32).view.ref.isScScratch = false}
    {hsrc : src.view.WordExact} {hdst : dst.view.WordExact}
    {hsem : DmaTarget.Typed .hbm (.dma qr) (.remote (Dev.tc n' : Thread nD τ) dst (.dma qs) hsc)}
    (q : PosShare TreeShare) (fs : Buf (Elt F) (src.view.loc (c : Thread nD τ))) (b : Buf (Elt F) (dst.view.loc (n : Thread nD τ)))
    (hpay : dmaPay m n qr.val = pts dst n fullShare (dst.view.write (Elt F) b (src.view.read (Elt F) fs) Finset.univ))
    (l : List (GSem nD τ sig × ℕ))
    {α : Type} {Q : α → sProp 𝕄} {k : PUnit → Prog (TpuEff nD τ sig (Elt F) Λ₀ .tc) α} :
    records m K ⊢ iprop(pts src c q fs -∗ (∃ fd, pts dst n fullShare fd) -∗ owesE c ((dCell n qr, N) :: l) -∗ ticket c n qs qr
      -∗ (due c qs -∗ owesE c l -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.remote (Dev.tc n' : Thread nD τ) dst (.dma qs) hsc) (.dma qr) hsrc hdst hsem) k) Q) := by
  have e1 : kcell (c, ks) = dCell c qs := congrArg (Prod.mk (c : Thread nD τ)) hks
  have e2 : kcell (n, kr) = dCell n qr := congrArg (Prod.mk (n : Thread nD τ)) hkr
  iintro #HR Hs ⟨%fd, Hd⟩ HO Ht Hk
  unfold owesE ticket due
  icases HO with ⟨%W, HO⟩
  icases Ht with ⟨Ht1, Ht2, Hat⟩
  iapply (wp_send m c n n' hn src dst qs qr hs1 hs2 hs3 hr1 hr2 (K (c, ks)) (K (n, kr)) hN q fs fd b hpay l W) $$ [Hs Hd HO Ht1 Ht2]
  · rw [← e1, ← e2]
    isplitr; · iapply (rec_inv m K (c, ks)); iexact HR
    isplitr; · iapply (rec_inv m K (n, kr)); iexact HR
    isplitl [Hs]; · iexact Hs
    isplitl [Hd]; · iexact Hd
    isplitl [HO]; · iexact HO
    isplitl [Ht1]; · iexact Ht1
    isplitr; · iapply (rec_reached m K (c, ks)); iexact HR
    isplitl [Ht2]; · iexact Ht2
    iapply (rec_reached m K (n, kr)); iexact HR
  iintro ⟨Hc, HO⟩
  iapply Hk $$ [Hc Hat] [HO]
  · isplitl [Hc] <;> iassumption
  iexists W; iexact HO

/-- A wait on a transfer's cell, which it closes. -/
theorem wp_waitC (c : Dev nD) (ks : Fin 13) (q : DmaSem sig) (hks : ksem ks = .dma q) (h1 : 4 ≤ q.val) (h2 : q.val ≤ 15) (l : List (GSem nD τ sig × ℕ))
    (hl : ∀ p ∈ l, p.1.1.2 = .tc ∧ lv (dCell c q) () < lv p.1 ())
    {sp sp' : Space} {src : Memref sig .tc sp S2x512x1024 .f32} {dst : Memref sig .tc sp' S2x512x1024 .f32} {hsrc : src.view.WordExact} {hdst : dst.view.WordExact} (hN : dst.view.dmaCredit = N)
    {α : Type} {Q : α → sProp 𝕄} {k : PUnit → Prog (TpuEff nD τ sig (Elt F) Λ₀ .tc) α} :
    records m K ⊢ iprop(due c q -∗ owesE c l -∗ levAts L lv
      -∗ (semVal (dCell c q) 0 -∗ owesE c l -∗ dmaPay m c q.val -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  have e1 : kcell (c, ks) = dCell c q := congrArg (Prod.mk (c : Thread nD τ)) hks
  have hI := rec_inv m K (c, ks)
  rw [e1] at hI
  iintro #HR Hd HO #HL Hk
  unfold due owesE
  icases Hd with ⟨Hc, Hat⟩
  icases HO with ⟨%W, HO⟩
  iapply (wp_wait m c q h1 h2 (K (c, ks)) l W hl (src := src) (dst := dst) hN) $$ [Hc HO Hat]
  · isplitr; · iapply hI; iexact HR
    isplitl [Hc]; · iexact Hc
    isplitl [HO]; · iexact HO
    isplitr; · iexact HL
    iexact Hat
  iintro ⟨HO, Hat, Hp⟩
  imod (Rounds.cell_close ER (sched m) (Set.mem_univ (K (c, ks))) (fun h => h) (R := 0 + 1) (duties_later m (dCell c q))) $$ [Hat] with Hz
  · isplitr; · iapply hI; iexact HR
    iexact Hat
  iapply Hk $$ Hz [HO] Hp
  iexists _; iexact HO

/-- The signal to a neighbour's barrier. -/
theorem wp_sigC (c n n' : Dev nD) (hn : n' = n) (d : Bool) (l : List (GSem nD τ sig × ℕ)) (P : sProp 𝕄)
    (hP : (sched m).payload (barCell n) 0 d = P)
    {α : Type} {Q : α → sProp 𝕄} {k : PUnit → Prog (TpuEff nD τ sig (Elt F) Λ₀ .tc) α} :
    records m K ⊢ iprop(owesE c ((barCell n, 1) :: l) -∗ dutyTok ER (barCell n) 0 d -∗ P
      -∗ (owesE c l -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n' : Thread nD τ) barS (1#32 : BitVec 32).toInt) k) Q) := by
  subst hn hP
  iintro #HR HO Ht Hp Hk
  unfold owesE
  icases HO with ⟨%W, HO⟩
  iapply (Rounds.wp_signal 𝒱₀ ER (sched m) (c : Thread nD τ) none (dst := (n' : Thread nD τ)) (κ := K (n', 0))
      (d := d) (by rw [duties_bar]; exact Finset.mem_univ _) ((amount_bar m n' d).trans (by decide)) () (owed l) rfl) $$ [HO Ht Hp]
  · isplitr; · iapply (rec_inv m K (n', 0)); iexact HR
    isplitl [HO]; · iexact HO
    isplitl [Ht]; · iexact Ht
    isplitl [Hp]; · iexact Hp
    iapply (rec_reached m K (n', 0)); iexact HR
  iintro HO
  iapply Hk
  iexists _; iexact HO

/-- The wait on its own barrier, for both neighbours. -/
theorem wp_barC (c : Dev nD) (l : List (GSem nD τ sig × ℕ)) (hl : ∀ p ∈ l, p.1.1.2 = .tc ∧ 1 < lv p.1 ())
    {α : Type} {Q : α → sProp 𝕄} {k : PUnit → Prog (TpuEff nD τ sig (Elt F) Λ₀ .tc) α} :
    records m K ⊢ iprop(owesE c l -∗ cred (tallyAt (barCell c) () 2) -∗ atPos ER (barCell c) 0 ∅ 0 -∗ levAts L lv
      -∗ (semVal (barCell c) 0 -∗ owesE c l -∗ barF c -∗ barT c -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS (2#32 : BitVec 32).toInt) k) Q) := by
  iintro #HR HO Hc Hat #HL Hk
  unfold owesE
  icases HO with ⟨%W, HO⟩
  iapply (Rounds.wp_wait_rest_token 𝒱₀ ER (sched m) (c : Thread nD τ) none (κ := K (c, 0))
      (wpE_semWait_eq 𝒱₀ (c : Thread nD τ) none Set.univ) (Set.mem_univ _) () (O := owed l) (W := W) (R := 0) (m := 0) (T := ∅)
      (by rw [expect_bar]; decide)) $$ [Hc HO Hat]
  · isplitr; · iapply (rec_inv m K (c, 0)); iexact HR
    isplitl [Hc]; · iexact Hc
    isplitl [HO]; · iexact HO
    isplitr; · iapply (mayWait_of c (.reg barS) l 1 le_rfl hl); iexact HL
    iexact Hat
  iintro ⟨HO, Hat, -, Hp⟩
  imod (Rounds.cell_close ER (sched m) (Set.mem_univ (K (c, 0))) (fun h => h) (R := 0 + 1) (duties_later m (barCell c))) $$ [Hat] with Hz
  · isplitr; · iapply (rec_inv m K (c, 0)); iexact HR
    iexact Hat
  ihave Hp := (Entails.of_eq (rest_bar m c)) $$ Hp
  icases Hp with ⟨HF, HT⟩
  iapply Hk $$ Hz [HO] HF HT
  iexists _; iexact HO

/-! ## What is owed stands above the cells waited on -/

theorem low2 (c : Dev nD) {n : ℕ} (h : n ≤ 3) : ∀ p ∈ sends2 c, p.1.1.2 = .tc ∧ n < lv p.1 () := by
  intro p hp
  simp only [List.mem_cons, List.not_mem_nil, or_false] at hp
  rcases hp with rfl | rfl
  · exact ⟨rfl, lt_of_le_of_lt h (show (3 : ℕ) < 4 by decide)⟩
  · exact ⟨rfl, lt_of_le_of_lt h (show (3 : ℕ) < 4 by decide)⟩
theorem low1 (c : Dev nD) {n : ℕ} (h : n ≤ 2) : ∀ p ∈ sends1 c, p.1.1.2 = .tc ∧ n < lv p.1 () := by
  intro p hp
  rcases List.mem_cons.mp hp with rfl | hp
  · exact ⟨rfl, lt_of_le_of_lt h (show (2 : ℕ) < 3 by decide)⟩
  rcases List.mem_cons.mp hp with rfl | hp
  · exact ⟨rfl, lt_of_le_of_lt h (show (2 : ℕ) < 3 by decide)⟩
  exact low2 c (by omega) p hp
theorem low0 (c : Dev nD) {n : ℕ} (h : n ≤ 1) : ∀ p ∈ sends0 c, p.1.1.2 = .tc ∧ n < lv p.1 () := by
  intro p hp
  rcases List.mem_cons.mp hp with rfl | hp
  · exact ⟨rfl, lt_of_le_of_lt h (show (1 : ℕ) < 2 by decide)⟩
  rcases List.mem_cons.mp hp with rfl | hp
  · exact ⟨rfl, lt_of_le_of_lt h (show (1 : ℕ) < 2 by decide)⟩
  exact low1 c (by omega) p hp
theorem lowNil {n : ℕ} : ∀ p ∈ ([] : List (GSem nD τ sig × ℕ)), p.1.1.2 = .tc ∧ n < lv p.1 () := fun p hp => absurd hp List.not_mem_nil

end Cert.KernelIdeal.Moe

end
-- ==== Proof.Values.lean ====
/-
# What the accumulator holds

The routing of a token block, one expert's contribution, the order of the experts; the loads of the three inputs.
-/
module

public import proofs.«01_k».proof.Proof.Ghost

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the routing gives a token block: the tokens, their two experts, their two weights. -/
structure Rt (F : FTy → Type) [FloatOps F] where
  x : FVec F S2048x512 .f32
  a : IVec S2048x1 32
  b : IVec S2048x1 32
  wa : FVec F S2048x1 .f32
  wb : FVec F S2048x1 .f32

/-- A token's weight on the expert named `e`. -/
def coef (t : Rt F) (e : BitVec 32) : FVec F S2048x1 .f32 :=
  addf (mulf (sitofp .f32 (extui 32 (cmpi .eq t.a (broadcast S2048x1 e)) natLt_1_32)) t.wa)
    (mulf (sitofp .f32 (extui 32 (cmpi .eq t.b (broadcast S2048x1 e)) natLt_1_32)) t.wb)
/-- The expert's contribution. -/
def term (t : Rt F) (e : BitVec 32) (E : Mat F) : FVec F S2048x1024 .f32 :=
  matmul dot_S2048x512_S512x1024_S2048x1024_1_0_0_1_n_n none (mulf t.x (broadcastTo S2048x512 (coef t e) broadcasts_S2048x1_S2048x512))
    (shapeCast S512x1024 (lift1 E) shapeCasts_S1x512x1024_S512x1024) (constant S2048x1024 .f32 0x00000000#32)
def upd (t : Rt F) (e : BitVec 32) (E : Mat F) (a : FVec F S2048x1024 .f32) : FVec F S2048x1024 .f32 :=
  addf (shapeCast S2048x1024 a shapeCasts_S2048x1024_S2048x1024) (term t e E)
/-- The accumulator after `n + 1` experts. -/
def accs (t : Rt F) (id : ℕ → BitVec 32) (E : ℕ → Mat F) : ℕ → FVec F S2048x1024 .f32
  | 0 => term t (id 0) (E 0)
  | n + 1 => upd t (id (n + 1)) (E (n + 1)) (accs t id E n)

/-! ## The words -/

/-- A device's own number, as the program computes it. -/
def wMe (c : Dev nD) : BitVec 32 := Scalar.remsi (Scalar.divsi (Dev.word c) 1#32) 4#32
def sel4 : BitVec 32 := Scalar.select (Scalar.cmpi .eq 4#32 0#32) 1#32 4#32
/-- The remainder modulo four of the sign of the divisor, from the truncated one. -/
def fix4 (r : BitVec 32) : BitVec 32 :=
  Scalar.select (Scalar.andi (Scalar.xori (Scalar.cmpi .slt r 0#32) (Scalar.cmpi .slt sel4 0#32)) (Scalar.cmpi .ne r 0#32)) (Scalar.addi r sel4) r
def wSub (c : Dev nD) (r : BitVec 32) : BitVec 32 := fix4 (Scalar.remsi (Scalar.subi (wMe c) r) sel4)
def wAdd (c : Dev nD) (r : BitVec 32) : BitVec 32 := fix4 (Scalar.remsi (Scalar.addi (wMe c) r) sel4)
def eid (s j : BitVec 32) : BitVec 32 := Scalar.addi (Scalar.muli s 4#32) j

/-- The experts in the order device `c` takes them. -/
def ids (c : Dev nD) : ℕ → BitVec 32
  | 0 => eid (wMe c) 0#32 | 1 => eid (wMe c) 1#32 | 2 => eid (wMe c) 2#32 | 3 => eid (wMe c) 3#32
  | 4 => eid (wSub c 1#32) 0#32 | 5 => eid (wSub c 1#32) 1#32 | 6 => eid (wAdd c 1#32) 2#32 | 7 => eid (wAdd c 1#32) 3#32
  | 8 => eid (wSub c 2#32) 0#32 | 9 => eid (wSub c 2#32) 1#32 | 10 => eid (wAdd c 2#32) 2#32 | 11 => eid (wAdd c 2#32) 3#32
  | 12 => eid (wSub c 3#32) 0#32 | 13 => eid (wSub c 3#32) 1#32 | 14 => eid (wAdd c 3#32) 2#32 | _ => eid (wAdd c 3#32) 3#32
/-- Their weights, where it reads them. -/
def mats (c : Dev nD) : ℕ → Mat F
  | 0 => e0.view.read (Elt F) (ewC m c) | 1 => e1.view.read (Elt F) (ewC m c)
  | 2 => e2.view.read (Elt F) (ewC m c) | 3 => e3.view.read (Elt F) (ewC m c)
  | 4 => (s00 cwM).view.read (Elt F) (cwC0 m c) | 5 => (s01 cwM).view.read (Elt F) (cwC0 m c)
  | 6 => (s00 ccM).view.read (Elt F) (ccC0 m c) | 7 => (s01 ccM).view.read (Elt F) (ccC0 m c)
  | 8 => (s10 cwM).view.read (Elt F) (cwC1 m c) | 9 => (s11 cwM).view.read (Elt F) (cwC1 m c)
  | 10 => (s10 ccM).view.read (Elt F) (ccC1 m c) | 11 => (s11 ccM).view.read (Elt F) (ccC1 m c)
  | 12 => (s20 cwM).view.read (Elt F) (cwC2 m c) | 13 => (s21 cwM).view.read (Elt F) (cwC2 m c)
  | 14 => (s20 ccM).view.read (Elt F) (ccC2 m c) | _ => (s21 ccM).view.read (Elt F) (ccC2 m c)

/-! ## The routing's inputs -/

abbrev RX : Rect S2048x512 := Rect.unit (s := S2048x512) ![0, 0] S2048x512.size inb_S2048x512_S2048x512_0_0
abbrev RR : Rect S512x16 := Rect.unit (s := S512x16) ![0, 0] S512x16.size inb_S512x16_S512x16_0_0
abbrev RI0 : Rect S2048x2 := Rect.unit (s := S2048x2) ![0, 0] S2048x1.size inb_S2048x2_S2048x1_0_0
abbrev RI1 : Rect S2048x2 := Rect.unit (s := S2048x2) ![0, 1] S2048x1.size inb_S2048x2_S2048x1_0_1
/-- The two columns of the experts' table. -/
def col0 (f : iM.view.ty.Contents (Elt F)) : Vec F S2048x1 .i32 := iM.view.readAt (Elt F) RI0.toLoadRect f
def col1 (f : iM.view.ty.Contents (Elt F)) : Vec F S2048x1 .i32 := iM.view.readAt (Elt F) RI1.toLoadRect f
def rtOf (x : xM.view.ty.Contents (Elt F)) (r : rM.view.ty.Contents (Elt F)) (i : iM.view.ty.Contents (Elt F)) : Rt F :=
  ⟨k0_pay2 x, k0_pay4 (F := F) (col0 i), k0_pay5 (F := F) (col1 i), k0_pay9 x r (col0 i) (col1 i), k0_pay10 x r (col0 i) (col1 i)⟩

omit [FloatOps F] in
theorem read_xM (v : xM.view.ty.Contents (Elt F)) : xM.view.readAt (Elt F) RX.toLoadRect v = v :=
  Memref.readAt_unit_zero (Elt F) cc0_stg0_0 off2 _ v
omit [FloatOps F] in
theorem read_rM (v : rM.view.ty.Contents (Elt F)) : rM.view.readAt (Elt F) RR.toLoadRect v = v :=
  Memref.readAt_unit_zero (Elt F) cc0_stg1_0 off2 _ v

/-- A staging buffer at contents `v`. -/
def xAt (c : Dev nD) (v : xM.view.ty.Contents (Elt F)) : sProp 𝕄 := iprop(((c : Thread nD τ).loc cc0_stg0_0) ↦{fullShare} v)
def rAt (c : Dev nD) (v : rM.view.ty.Contents (Elt F)) : sProp 𝕄 := iprop(((c : Thread nD τ).loc cc0_stg1_0) ↦{fullShare} v)
def iAt (c : Dev nD) (v : iM.view.ty.Contents (Elt F)) : sProp 𝕄 := iprop(((c : Thread nD τ).loc cc0_stg2_0) ↦{fullShare} v)

theorem wp_ldX (c : Dev nD) (v : xM.view.ty.Contents (Elt F)) {hl : xM.view.LoadsAt RX.toLoadRect}
    {α : Type} {Q : α → sProp 𝕄} {k : (RX.toLoadRect.shape.Idx → Elt F .f32) → Prog (TpuEff nD τ sig (Elt F) Λ₀ .tc) α} :
    xAt c v ⊢ iprop((xAt c v -∗ wp frame (wpE (defs₀ (F := F)) 𝒱₀ (c : Thread nD τ) none) Set.univ (k v) Q)
      -∗ wp frame (wpE (defs₀ (F := F)) 𝒱₀ (c : Thread nD τ) none) Set.univ (.op (.load xM RX.toLoadRect hl) k) Q) := by
  iintro H Hk
  unfold xAt
  iapply (wp_load 𝒱₀ (c : Thread nD τ) none Set.univ (m := xM) (r := RX.toLoadRect) (q := fullShare) (f := v) (S := Finset.univ) (Finset.subset_univ _)) $$ H
  iintro H
  rw [read_xM]
  iapply Hk; iexact H
theorem wp_ldR (c : Dev nD) (v : rM.view.ty.Contents (Elt F)) {hl : rM.view.LoadsAt RR.toLoadRect}
    {α : Type} {Q : α → sProp 𝕄} {k : (RR.toLoadRect.shape.Idx → Elt F .f32) → Prog (TpuEff nD τ sig (Elt F) Λ₀ .tc) α} :
    rAt c v ⊢ iprop((rAt c v -∗ wp frame (wpE (defs₀ (F := F)) 𝒱₀ (c : Thread nD τ) none) Set.univ (k v) Q)
      -∗ wp frame (wpE (defs₀ (F := F)) 𝒱₀ (c : Thread nD τ) none) Set.univ (.op (.load rM RR.toLoadRect hl) k) Q) := by
  iintro H Hk
  unfold rAt
  iapply (wp_load 𝒱₀ (c : Thread nD τ) none Set.univ (m := rM) (r := RR.toLoadRect) (q := fullShare) (f := v) (S := Finset.univ) (Finset.subset_univ _)) $$ H
  iintro H
  rw [read_rM]
  iapply Hk; iexact H
theorem wp_ldI0 (c : Dev nD) (v : iM.view.ty.Contents (Elt F)) {hl : iM.view.LoadsAt RI0.toLoadRect}
    {α : Type} {Q : α → sProp 𝕄} {k : (RI0.toLoadRect.shape.Idx → Elt F .i32) → Prog (TpuEff nD τ sig (Elt F) Λ₀ .tc) α} :
    iAt c v ⊢ iprop((iAt c v -∗ wp frame (wpE (defs₀ (F := F)) 𝒱₀ (c : Thread nD τ) none) Set.univ (k (col0 v)) Q)
      -∗ wp frame (wpE (defs₀ (F := F)) 𝒱₀ (c : Thread nD τ) none) Set.univ (.op (.load iM RI0.toLoadRect hl) k) Q) := by
  iintro H Hk
  unfold iAt col0
  iapply (wp_load 𝒱₀ (c : Thread nD τ) none Set.univ (m := iM) (r := RI0.toLoadRect) (q := fullShare) (f := v) (S := Finset.univ) (Finset.subset_univ _)) $$ H
  iintro H
  iapply Hk; iexact H
theorem wp_ldI1 (c : Dev nD) (v : iM.view.ty.Contents (Elt F)) {hl : iM.view.LoadsAt RI1.toLoadRect}
    {α : Type} {Q : α → sProp 𝕄} {k : (RI1.toLoadRect.shape.Idx → Elt F .i32) → Prog (TpuEff nD τ sig (Elt F) Λ₀ .tc) α} :
    iAt c v ⊢ iprop((iAt c v -∗ wp frame (wpE (defs₀ (F := F)) 𝒱₀ (c : Thread nD τ) none) Set.univ (k (col1 v)) Q)
      -∗ wp frame (wpE (defs₀ (F := F)) 𝒱₀ (c : Thread nD τ) none) Set.univ (.op (.load iM RI1.toLoadRect hl) k) Q) := by
  iintro H Hk
  unfold iAt col1
  iapply (wp_load 𝒱₀ (c : Thread nD τ) none Set.univ (m := iM) (r := RI1.toLoadRect) (q := fullShare) (f := v) (S := Finset.univ) (Finset.subset_univ _)) $$ H
  iintro H
  iapply Hk; iexact H

end Cert.KernelIdeal.Moe

end
-- ==== Proof.PartsA.lean ====
/-
# The body, part by part: the first round
-/
module

public import proofs.«01_k».proof.Proof.Values

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

abbrev d4 : DmaSem sig := dq 4
abbrev d5 : DmaSem sig := dq 5
abbrev d6 : DmaSem sig := dq 6
abbrev d7 : DmaSem sig := dq 7
abbrev d8 : DmaSem sig := dq 8
abbrev d9 : DmaSem sig := dq 9
abbrev d10 : DmaSem sig := dq 10
abbrev d11 : DmaSem sig := dq 11
abbrev d12 : DmaSem sig := dq 12
abbrev d13 : DmaSem sig := dq 13
abbrev d14 : DmaSem sig := dq 14
abbrev d15 : DmaSem sig := dq 15
abbrev d16 : DmaSem sig := dq 16
abbrev d17 : DmaSem sig := dq 17

/-- A transfer credits its size, whatever the memories. -/
theorem credW {sp : Space} (w : Memref sig .tc sp S512x1024 .f32) : w.view.dmaCredit = NW := rfl
theorem credN {sp : Space} (w : Memref sig .tc sp S2x512x1024 .f32) : w.view.dmaCredit = N := rfl

/-- A local transfer, its contents named. -/
theorem wp_startE (c : Dev nD) (src : Memref sig .tc .hbm S512x1024 .f32) (w : Memref sig .tc .vmem S512x1024 .f32) (q : DmaSem sig)
    {hsrc : src.view.WordExact} {hdst : w.view.WordExact}
    {hsem : DmaTarget.Typed (nD := nD) (p := (.tc : Proc τ)) .hbm (.dma q) (.here w)}
    (hN : w.view.amount (SemLoc.dma q : SemLoc sig) = NW)
    (p : PosShare TreeShare) (fs : Buf (Elt F) (src.view.loc (c : Thread nD τ))) (E : Mat F) (hE : src.view.read (Elt F) fs = E)
    {α : Type} {Q : α → sProp 𝕄} {k : PUnit → Prog (TpuEff nD τ sig (Elt F) Λ₀ .tc) α} :
    (pts src c p fs) ⊢ iprop((∃ E, holds w c E) -∗ semVal (dCell c q) 0
      -∗ (fly c q w E -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here w) (.dma q) hsrc hdst hsem) k) Q) := by
  subst hE; exact wp_start c src w q hN p fs

/-- A slot at some contents. -/
theorem holds_any (c : Dev nD) (w : Memref sig .tc .vmem S512x1024 .f32) (E : Mat F) : (holds w c E : sProp 𝕄) ⊢ iprop(∃ E, holds w c E) := by
  iintro H; iexists E; iexact H

/-- The barrier. -/
theorem part1 (c : Dev nD)
    {α : Type} {Q : α → sProp 𝕄} {k : _ → Prog (TpuEff nD τ sig (Elt F) Λ₀ .tc) α} :
    records m K ⊢ iprop(levAts L lv -∗ owesE c (debts c) -∗ dutyTok ER (barCell (prv c)) 0 true -∗ dutyTok ER (barCell (nxt c)) 0 false -∗ barT (prv c) -∗ barF (nxt c) -∗ cred (tallyAt (barCell c) () 2) -∗ atPos ER (barCell c) 0 ∅ 0 -∗ (semVal (barCell c) 0 -∗ owesE c (sends0 c) -∗ barF c -∗ barT c -∗ wp frame (wpE (defs₀ (F := F)) 𝒱₀ (c : Thread nD τ) none) Set.univ (k ⟨c, wMe c, wSub c 1#32, wAdd c 1#32⟩) Q)
      -∗ wp frame (wpE (defs₀ (F := F)) 𝒱₀ (c : Thread nD τ) none) Set.univ (k0_part1 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5  >>= k) Q) := by
  simp only [k0_part1_eq_skeleton]; unfold k0_part1_skel
  simp only [semSignalWord, semWaitWord, Prog.lift, Prog.bind_op, Prog.bind_ret, Prog.pure_eq_ret, Prog.bind_assoc, wp_deviceId]
  iintro #HR #HL HO Ht1 Ht2 HT HF Hc Hat Hk
  iapply (wp_sigC m K c (prv c) _ (dev1_eq c) true _ _ (payload_bar_true m (prv c))) $$ HR HO Ht1 HT
  iintro HO
  iapply (wp_sigC m K c (nxt c) _ (dev2_eq c) false _ _ (payload_bar_false m (nxt c))) $$ HR HO Ht2 HF
  iintro HO
  iapply (wp_barC m K c (sends0 c) (low0 c le_rfl)) $$ HR HO Hc Hat HL
  iintro Hz HO HF HT
  iapply Hk $$ Hz HO HF HT

/-- The inputs. -/
theorem part2 (c : Dev nD) (v24 : BitVec 32) (x : xM.view.ty.Contents (Elt F)) (r : rM.view.ty.Contents (Elt F)) (i : iM.view.ty.Contents (Elt F))
    {α : Type} {Q : α → sProp 𝕄} {k : _ → Prog (TpuEff nD τ sig (Elt F) Λ₀ .tc) α} :
    records m K ⊢ iprop(levAts L lv -∗ xAt c x -∗ rAt c r -∗ iAt c i -∗ (xAt c x -∗ rAt c r -∗ iAt c i -∗ wp frame (wpE (defs₀ (F := F)) 𝒱₀ (c : Thread nD τ) none) Set.univ (k ⟨(rtOf x r i).x, (rtOf x r i).a, (rtOf x r i).b, (rtOf x r i).wa, (rtOf x r i).wb⟩) Q)
      -∗ wp frame (wpE (defs₀ (F := F)) 𝒱₀ (c : Thread nD τ) none) Set.univ (k0_part2 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v24 >>= k) Q) := by
  simp only [k0_part2_eq_skeleton]; unfold k0_part2_skel
  simp only [semSignalWord, semWaitWord, Prog.lift, Prog.bind_op, Prog.bind_ret, Prog.pure_eq_ret, Prog.bind_assoc, wp_deviceId]
  iintro #HR #HL Hx Hr Hi Hk
  iapply (wp_ldX c x) $$ Hx
  iintro Hx
  iapply (wp_ldR c r) $$ Hr
  iintro Hr
  iapply (wp_ldI0 c i) $$ Hi
  iintro Hi
  iapply (wp_ldI1 c i) $$ Hi
  iintro Hi
  iapply Hk $$ Hx Hr Hi

/-- What the receive cells hand over, as the transfers leave it. -/
theorem pay7 (c : Dev nD) : dmaPay m (nxt c) 7 = pts (pc0 cwM) (nxt c) fullShare ((pc0 cwM).view.write (Elt F) (m ((nxt c : Thread nD τ).loc main_v1_1)) (eLo.view.read (Elt F) (ewC m c)) Finset.univ) := by
  unfold dmaPay; rw [if_pos rfl]; unfold cwC0; rw [prv_nxt]
theorem pay8 (c : Dev nD) : dmaPay m (nxt c) 8 = pts (pc1 cwM) (nxt c) fullShare ((pc1 cwM).view.write (Elt F) (m ((nxt c : Thread nD τ).loc main_v1_1)) ((pc0 cwM).view.read (Elt F) (cwC0 m c)) Finset.univ) := by
  unfold dmaPay; rw [if_neg (by decide), if_pos rfl]; unfold cwC1; rw [prv_nxt]
theorem pay9 (c : Dev nD) : dmaPay m (nxt c) 9 = pts (pc2 cwM) (nxt c) fullShare ((pc2 cwM).view.write (Elt F) (m ((nxt c : Thread nD τ).loc main_v1_1)) ((pc1 cwM).view.read (Elt F) (cwC1 m c)) Finset.univ) := by
  unfold dmaPay; rw [if_neg (by decide), if_neg (by decide), if_pos rfl]; unfold cwC2; rw [prv_nxt]
theorem pay13 (c : Dev nD) : dmaPay m (prv c) 13 = pts (pc0 ccM) (prv c) fullShare ((pc0 ccM).view.write (Elt F) (m ((prv c : Thread nD τ).loc main_v1_2)) (eHi.view.read (Elt F) (ewC m c)) Finset.univ) := by
  unfold dmaPay; rw [if_neg (by decide), if_neg (by decide), if_neg (by decide), if_pos rfl]; unfold ccC0; rw [nxt_prv]
theorem pay14 (c : Dev nD) : dmaPay m (prv c) 14 = pts (pc1 ccM) (prv c) fullShare ((pc1 ccM).view.write (Elt F) (m ((prv c : Thread nD τ).loc main_v1_2)) ((pc0 ccM).view.read (Elt F) (ccC0 m c)) Finset.univ) := by
  unfold dmaPay; rw [if_neg (by decide), if_neg (by decide), if_neg (by decide), if_neg (by decide), if_pos rfl]; unfold ccC1; rw [nxt_prv]
theorem pay15 (c : Dev nD) : dmaPay m (prv c) 15 = pts (pc2 ccM) (prv c) fullShare ((pc2 ccM).view.write (Elt F) (m ((prv c : Thread nD τ).loc main_v1_2)) ((pc1 ccM).view.read (Elt F) (ccC1 m c)) Finset.univ) := by
  unfold dmaPay; rw [if_neg (by decide), if_neg (by decide), if_neg (by decide), if_neg (by decide), if_neg (by decide), if_pos rfl]; unfold ccC2; rw [nxt_prv]
theorem got7 (c : Dev nD) : dmaPay m c 7 = pts (pc0 cwM) c fullShare (cwC0 m c) := by unfold dmaPay; rw [if_pos rfl]
theorem got8 (c : Dev nD) : dmaPay m c 8 = pts (pc1 cwM) c fullShare (cwC1 m c) := by unfold dmaPay; rw [if_neg (by decide), if_pos rfl]
theorem got9 (c : Dev nD) : dmaPay m c 9 = pts (pc2 cwM) c fullShare (cwC2 m c) := by unfold dmaPay; rw [if_neg (by decide), if_neg (by decide), if_pos rfl]
theorem got13 (c : Dev nD) : dmaPay m c 13 = pts (pc0 ccM) c fullShare (ccC0 m c) := by
  unfold dmaPay; rw [if_neg (by decide), if_neg (by decide), if_neg (by decide), if_pos rfl]
theorem got14 (c : Dev nD) : dmaPay m c 14 = pts (pc1 ccM) c fullShare (ccC1 m c) := by
  unfold dmaPay; rw [if_neg (by decide), if_neg (by decide), if_neg (by decide), if_neg (by decide), if_pos rfl]
theorem got15 (c : Dev nD) : dmaPay m c 15 = pts (pc2 ccM) c fullShare (ccC2 m c) := by
  unfold dmaPay; rw [if_neg (by decide), if_neg (by decide), if_neg (by decide), if_neg (by decide), if_neg (by decide), if_pos rfl]

/-- The first transfers, and the first two experts on their way. -/
theorem part3 (c : Dev nD) (v13 : BitVec 32) (q : PosShare TreeShare)
    {α : Type} {Q : α → sProp 𝕄} {k : _ → Prog (TpuEff nD τ sig (Elt F) Λ₀ .tc) α} :
    records m K ⊢ iprop(levAts L lv -∗ pts eLo c fullShare.left (ewC m c) -∗ pts eHi c fullShare.left (ewC m c) -∗ (∃ fd, pts (pc0 cwM) (nxt c) fullShare fd) -∗ (∃ fd, pts (pc0 ccM) (prv c) fullShare fd) -∗ owesE c (sends0 c) -∗ ticket c (nxt c) d4 d7 -∗ ticket c (prv c) d10 d13 -∗ pts e0 c q (ewC m c) -∗ pts e1 c q (ewC m c) -∗ (∃ E, holds wk0 c E) -∗ (∃ E, holds wk1 c E) -∗ semVal (dCell c d16) 0 -∗ semVal (dCell c d17) 0 -∗ (due c d4 -∗ due c d10 -∗ owesE c (sends1 c) -∗ fly c d16 wk0 (mats m c 0) -∗ fly c d17 wk1 (mats m c 1) -∗ wp frame (wpE (defs₀ (F := F)) 𝒱₀ (c : Thread nD τ) none) Set.univ (k ⟨⟩) Q)
      -∗ wp frame (wpE (defs₀ (F := F)) 𝒱₀ (c : Thread nD τ) none) Set.univ (k0_part3 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 c v13 >>= k) Q) := by
  simp only [k0_part3_eq_skeleton]; unfold k0_part3_skel
  simp only [semSignalWord, semWaitWord, Prog.lift, Prog.bind_op, Prog.bind_ret, Prog.pure_eq_ret, Prog.bind_assoc, wp_deviceId]
  iintro #HR #HL HsL HsH HdL HdH HO Ht1 Ht2 He0 He1 Hw0 Hw1 Hv0 Hv1 Hk
  iapply (wp_sendC m K c (nxt c) _ (dev3_eq c) eLo (pc0 cwM) 1 4 d4 d7 rfl rfl (by decide) (by decide) (by decide) (by decide) (by decide) rfl fullShare.left (ewC m c) (m (((nxt c : Dev nD) : Thread nD τ).loc main_v1_1)) (pay7 m c) _) $$ HR HsL HdL HO Ht1
  iintro Hd1 HO
  iapply (wp_sendC m K c (prv c) _ (dev4_eq c) eHi (pc0 ccM) 7 10 d10 d13 rfl rfl (by decide) (by decide) (by decide) (by decide) (by decide) rfl fullShare.left (ewC m c) (m (((prv c : Dev nD) : Thread nD τ).loc main_v1_2)) (pay13 m c) _) $$ HR HsH HdH HO Ht2
  iintro Hd2 HO
  iapply (wp_startE c e0 wk0 d16 rfl q (ewC m c) (mats m c 0) rfl) $$ He0 Hw0 Hv0
  iintro Hf0
  iapply (wp_startE c e1 wk1 d17 rfl q (ewC m c) (mats m c 1) rfl) $$ He1 Hw1 Hv1
  iintro Hf1
  iapply Hk $$ Hd1 Hd2 HO Hf0 Hf1

/-- The first expert. -/
theorem part4 (c : Dev nD) (t : Rt F) (v2 : BitVec 32) (q : PosShare TreeShare) (E : Mat F) (v : FVec F S2048x1024 .f32)
    {α : Type} {Q : α → sProp 𝕄} {k : _ → Prog (TpuEff nD τ sig (Elt F) Λ₀ .tc) α} :
    records m K ⊢ iprop(levAts L lv -∗ owesE c (sends1 c) -∗ fly c d16 wk0 E -∗ acc c v -∗ pts e2 c q (ewC m c) -∗ (owesE c (sends1 c) -∗ acc c (term t (eid v2 0#32) E) -∗ fly c d16 wk0 (mats m c 2) -∗ wp frame (wpE (defs₀ (F := F)) 𝒱₀ (c : Thread nD τ) none) Set.univ (k ⟨⟩) Q)
      -∗ wp frame (wpE (defs₀ (F := F)) 𝒱₀ (c : Thread nD τ) none) Set.univ (k0_part4 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v2 t.x t.a t.b t.wa t.wb >>= k) Q) := by
  simp only [k0_part4_eq_skeleton]; unfold k0_part4_skel
  simp only [semSignalWord, semWaitWord, Prog.lift, Prog.bind_op, Prog.bind_ret, Prog.pure_eq_ret, Prog.bind_assoc, wp_deviceId]
  iintro #HR #HL HO Hf Ha He Hk
  iapply (wp_done c d16 wk0 E (sends1 c) (low1 c (Nat.le_of_ble_eq_true rfl)) (credW _)) $$ Hf HO HL
  iintro Hw Hv HO
  iapply (wp_slot0 c E) $$ Hw
  iintro Hw
  iapply (wp_ldAcc c v) $$ Ha
  iintro Ha
  iapply (wp_stAcc c v _ (term t (eid v2 0#32) E) rfl rfl) $$ Ha
  iintro Ha
  ihave Hw := (holds_any c wk0 _) $$ Hw
  iapply (wp_startE c e2 wk0 d16 rfl q (ewC m c) (mats m c 2) rfl) $$ He Hw Hv
  iintro Hf
  iapply Hk $$ HO Ha Hf

/-- The second expert. -/
theorem part5 (c : Dev nD) (t : Rt F) (v2 : BitVec 32) (q : PosShare TreeShare) (E : Mat F) (v : FVec F S2048x1024 .f32)
    {α : Type} {Q : α → sProp 𝕄} {k : _ → Prog (TpuEff nD τ sig (Elt F) Λ₀ .tc) α} :
    records m K ⊢ iprop(levAts L lv -∗ owesE c (sends1 c) -∗ fly c d17 wk1 E -∗ acc c v -∗ pts e3 c q (ewC m c) -∗ (owesE c (sends1 c) -∗ acc c (upd t (eid v2 1#32) E v) -∗ fly c d17 wk1 (mats m c 3) -∗ wp frame (wpE (defs₀ (F := F)) 𝒱₀ (c : Thread nD τ) none) Set.univ (k ⟨⟩) Q)
      -∗ wp frame (wpE (defs₀ (F := F)) 𝒱₀ (c : Thread nD τ) none) Set.univ (k0_part5 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v2 t.x t.a t.b t.wa t.wb >>= k) Q) := by
  simp only [k0_part5_eq_skeleton]; unfold k0_part5_skel
  simp only [semSignalWord, semWaitWord, Prog.lift, Prog.bind_op, Prog.bind_ret, Prog.pure_eq_ret, Prog.bind_assoc, wp_deviceId]
  iintro #HR #HL HO Hf Ha He Hk
  iapply (wp_done c d17 wk1 E (sends1 c) (low1 c (Nat.le_of_ble_eq_true rfl)) (credW _)) $$ Hf HO HL
  iintro Hw Hv HO
  iapply (wp_slot1 c E) $$ Hw
  iintro Hw
  iapply (wp_ldAcc c v) $$ Ha
  iintro Ha
  iapply (wp_ldAcc c v) $$ Ha
  iintro Ha
  iapply (wp_stAcc c v _ (upd t (eid v2 1#32) E v) rfl rfl) $$ Ha
  iintro Ha
  ihave Hw := (holds_any c wk1 _) $$ Hw
  iapply (wp_startE c e3 wk1 d17 rfl q (ewC m c) (mats m c 3) rfl) $$ He Hw Hv
  iintro Hf
  iapply Hk $$ HO Ha Hf

/-- The third expert. -/
theorem part6 (c : Dev nD) (t : Rt F) (v2 : BitVec 32) (E E' : Mat F) (v : FVec F S2048x1024 .f32)
    {α : Type} {Q : α → sProp 𝕄} {k : _ → Prog (TpuEff nD τ sig (Elt F) Λ₀ .tc) α} :
    records m K ⊢ iprop(levAts L lv -∗ owesE c (sends1 c) -∗ fly c d16 wk0 E -∗ fly c d17 wk1 E' -∗ acc c v -∗ (owesE c (sends1 c) -∗ acc c (upd t (eid v2 2#32) E v) -∗ holds wk0 c E -∗ semVal (dCell c d16) 0 -∗ holds wk1 c E' -∗ semVal (dCell c d17) 0 -∗ wp frame (wpE (defs₀ (F := F)) 𝒱₀ (c : Thread nD τ) none) Set.univ (k ⟨eid v2 3#32, broadcast S2048x1 (eid v2 3#32)⟩) Q)
      -∗ wp frame (wpE (defs₀ (F := F)) 𝒱₀ (c : Thread nD τ) none) Set.univ (k0_part6 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v2 t.x t.a t.b t.wa t.wb >>= k) Q) := by
  simp only [k0_part6_eq_skeleton]; unfold k0_part6_skel
  simp only [semSignalWord, semWaitWord, Prog.lift, Prog.bind_op, Prog.bind_ret, Prog.pure_eq_ret, Prog.bind_assoc, wp_deviceId]
  iintro #HR #HL HO Hf Hg Ha Hk
  iapply (wp_done c d16 wk0 E (sends1 c) (low1 c (Nat.le_of_ble_eq_true rfl)) (credW _)) $$ Hf HO HL
  iintro Hw Hv HO
  iapply (wp_slot0 c E) $$ Hw
  iintro Hw
  iapply (wp_ldAcc c v) $$ Ha
  iintro Ha
  iapply (wp_ldAcc c v) $$ Ha
  iintro Ha
  iapply (wp_stAcc c v _ (upd t (eid v2 2#32) E v) rfl rfl) $$ Ha
  iintro Ha
  iapply (wp_done c d17 wk1 E' (sends1 c) (low1 c (Nat.le_of_ble_eq_true rfl)) (credW _)) $$ Hg HO HL
  iintro Hx Hy HO
  iapply Hk $$ HO Ha Hw Hv Hx Hy

/-- The fourth expert. -/
theorem part7 (c : Dev nD) (t : Rt F) (v24 e : BitVec 32) (E : Mat F) (v : FVec F S2048x1024 .f32)
    {α : Type} {Q : α → sProp 𝕄} {k : _ → Prog (TpuEff nD τ sig (Elt F) Λ₀ .tc) α} :
    records m K ⊢ iprop(levAts L lv -∗ owesE c (sends1 c) -∗ holds wk1 c E -∗ acc c v -∗ due c d4 -∗ (owesE c (sends1 c) -∗ acc c (upd t (e) E v) -∗ holds wk1 c E -∗ semVal (dCell c d4) 0 -∗ wp frame (wpE (defs₀ (F := F)) 𝒱₀ (c : Thread nD τ) none) Set.univ (k ⟨⟩) Q)
      -∗ wp frame (wpE (defs₀ (F := F)) 𝒱₀ (c : Thread nD τ) none) Set.univ (k0_part7 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v24 t.x t.a t.b t.wa t.wb e (broadcast S2048x1 e) >>= k) Q) := by
  simp only [k0_part7_eq_skeleton]; unfold k0_part7_skel
  simp only [semSignalWord, semWaitWord, Prog.lift, Prog.bind_op, Prog.bind_ret, Prog.pure_eq_ret, Prog.bind_assoc, wp_deviceId]
  iintro #HR #HL HO Hw Ha Hd Hk
  iapply (wp_slot1 c E) $$ Hw
  iintro Hw
  iapply (wp_ldAcc c v) $$ Ha
  iintro Ha
  iapply (wp_ldAcc c v) $$ Ha
  iintro Ha
  iapply (wp_stAcc c v _ (upd t (e) E v) rfl rfl) $$ Ha
  iintro Ha
  iapply (wp_waitC m K c 1 d4 rfl (by decide) (by decide) (sends1 c) (low1 c (Nat.le_of_ble_eq_true rfl)) (credN _)) $$ HR Hd HO HL
  iintro Hz HO -
  iapply Hk $$ HO Ha Hw Hz

/-- The first round's landings. -/
theorem part8 (c : Dev nD) (v13 v24 : BitVec 32)
    {α : Type} {Q : α → sProp 𝕄} {k : _ → Prog (TpuEff nD τ sig (Elt F) Λ₀ .tc) α} :
    records m K ⊢ iprop(levAts L lv -∗ owesE c (sends1 c) -∗ due c d7 -∗ due c d10 -∗ due c d13 -∗ (owesE c (sends1 c) -∗ semVal (dCell c d7) 0 -∗ semVal (dCell c d10) 0 -∗ semVal (dCell c d13) 0 -∗ pts (pc0 cwM) c fullShare (cwC0 m c) -∗ pts (pc0 ccM) c fullShare (ccC0 m c) -∗ wp frame (wpE (defs₀ (F := F)) 𝒱₀ (c : Thread nD τ) none) Set.univ (k ⟨⟩) Q)
      -∗ wp frame (wpE (defs₀ (F := F)) 𝒱₀ (c : Thread nD τ) none) Set.univ (k0_part8 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v13 v24 >>= k) Q) := by
  simp only [k0_part8_eq_skeleton]; unfold k0_part8_skel
  simp only [semSignalWord, semWaitWord, Prog.lift, Prog.bind_op, Prog.bind_ret, Prog.pure_eq_ret, Prog.bind_assoc, wp_deviceId]
  iintro #HR #HL HO Hd1 Hd2 Hd3 Hk
  iapply (wp_waitC m K c 4 d7 rfl (by decide) (by decide) (sends1 c) (low1 c (Nat.le_of_ble_eq_true rfl)) (credN _)) $$ HR Hd1 HO HL
  iintro Hz1 HO Hp1
  ihave Hp1 := (Entails.of_eq (got7 m c)) $$ Hp1
  iapply (wp_waitC m K c 7 d10 rfl (by decide) (by decide) (sends1 c) (low1 c (Nat.le_of_ble_eq_true rfl)) (credN _)) $$ HR Hd2 HO HL
  iintro Hz2 HO -
  iapply (wp_waitC m K c 10 d13 rfl (by decide) (by decide) (sends1 c) (low1 c (Nat.le_of_ble_eq_true rfl)) (credN _)) $$ HR Hd3 HO HL
  iintro Hz3 HO Hp3
  ihave Hp3 := (Entails.of_eq (got13 m c)) $$ Hp3
  iapply Hk $$ HO Hz1 Hz2 Hz3 Hp1 Hp3

/-- The second transfers. -/
theorem part9 (c : Dev nD) (v13 : BitVec 32)
    {α : Type} {Q : α → sProp 𝕄} {k : _ → Prog (TpuEff nD τ sig (Elt F) Λ₀ .tc) α} :
    records m K ⊢ iprop(levAts L lv -∗ owesE c (sends1 c) -∗ pts (pc0 cwM) c fullShare.left (cwC0 m c) -∗ pts (pc0 ccM) c fullShare.left (ccC0 m c) -∗ (∃ fd, pts (pc1 cwM) (nxt c) fullShare fd) -∗ (∃ fd, pts (pc1 ccM) (prv c) fullShare fd) -∗ ticket c (nxt c) d5 d8 -∗ ticket c (prv c) d11 d14 -∗ (owesE c (sends2 c) -∗ due c d5 -∗ due c d11 -∗ wp frame (wpE (defs₀ (F := F)) 𝒱₀ (c : Thread nD τ) none) Set.univ (k ⟨wSub c 1#32, wSub c 1#32⟩) Q)
      -∗ wp frame (wpE (defs₀ (F := F)) 𝒱₀ (c : Thread nD τ) none) Set.univ (k0_part9 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 c (wMe c) v13 >>= k) Q) := by
  simp only [k0_part9_eq_skeleton]; unfold k0_part9_skel
  simp only [semSignalWord, semWaitWord, Prog.lift, Prog.bind_op, Prog.bind_ret, Prog.pure_eq_ret, Prog.bind_assoc, wp_deviceId]
  iintro #HR #HL HO Hs1 Hs2 Hd1 Hd2 Ht1 Ht2 Hk
  iapply (wp_sendC m K c (nxt c) _ (dev5_eq c) (pc0 cwM) (pc1 cwM) 2 5 d5 d8 rfl rfl (by decide) (by decide) (by decide) (by decide) (by decide) rfl fullShare.left (cwC0 m c) (m (((nxt c : Dev nD) : Thread nD τ).loc main_v1_1)) (pay8 m c) _) $$ HR Hs1 Hd1 HO Ht1
  iintro Hu1 HO
  iapply (wp_sendC m K c (prv c) _ (dev6_eq c) (pc0 ccM) (pc1 ccM) 8 11 d11 d14 rfl rfl (by decide) (by decide) (by decide) (by decide) (by decide) rfl fullShare.left (ccC0 m c) (m (((prv c : Dev nD) : Thread nD τ).loc main_v1_2)) (pay14 m c) _) $$ HR Hs2 Hd2 HO Ht2
  iintro Hu2 HO
  iapply Hk $$ HO Hu1 Hu2

/-- The fifth expert on its way. -/
theorem part10 (c : Dev nD) (q : PosShare TreeShare)
    {α : Type} {Q : α → sProp 𝕄} {k : _ → Prog (TpuEff nD τ sig (Elt F) Λ₀ .tc) α} :
    records m K ⊢ iprop(levAts L lv -∗ pts (s00 cwM) c q (cwC0 m c) -∗ (∃ E, holds wk0 c E) -∗ semVal (dCell c d16) 0 -∗ (fly c d16 wk0 (mats m c 4) -∗ wp frame (wpE (defs₀ (F := F)) 𝒱₀ (c : Thread nD τ) none) Set.univ (k ⟨wAdd c 1#32, wAdd c 1#32⟩) Q)
      -∗ wp frame (wpE (defs₀ (F := F)) 𝒱₀ (c : Thread nD τ) none) Set.univ (k0_part10 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 (wMe c) >>= k) Q) := by
  simp only [k0_part10_eq_skeleton]; unfold k0_part10_skel
  simp only [semSignalWord, semWaitWord, Prog.lift, Prog.bind_op, Prog.bind_ret, Prog.pure_eq_ret, Prog.bind_assoc, wp_deviceId]
  iintro #HR #HL Hs Hw Hv Hk
  iapply (wp_startE c (s00 cwM) wk0 d16 rfl q (cwC0 m c) (mats m c 4) rfl) $$ Hs Hw Hv
  iintro Hf
  iapply Hk $$ Hf

end Cert.KernelIdeal.Moe

end
-- ==== Proof.PartsB.lean ====
/-
# The body, part by part: the later rounds
-/
module

public import proofs.«01_k».proof.Proof.PartsA

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The fifth expert. -/
theorem part11 (c : Dev nD) (t : Rt F) (e : BitVec 32) (q : PosShare TreeShare) (E : Mat F) (v : FVec F S2048x1024 .f32)
    {α : Type} {Q : α → sProp 𝕄} {k : _ → Prog (TpuEff nD τ sig (Elt F) Λ₀ .tc) α} :
    records m K ⊢ iprop(levAts L lv -∗ owesE c (sends2 c) -∗ pts (s01 cwM) c q (cwC0 m c) -∗ (∃ E, holds wk1 c E) -∗ semVal (dCell c d17) 0 -∗ fly c d16 wk0 E -∗ acc c v -∗ (owesE c (sends2 c) -∗ fly c d17 wk1 (mats m c 5) -∗ acc c (upd t (eid e 0#32) E v) -∗ holds wk0 c E -∗ semVal (dCell c d16) 0 -∗ wp frame (wpE (defs₀ (F := F)) 𝒱₀ (c : Thread nD τ) none) Set.univ (k ⟨⟩) Q)
      -∗ wp frame (wpE (defs₀ (F := F)) 𝒱₀ (c : Thread nD τ) none) Set.univ (k0_part11 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e >>= k) Q) := by
  simp only [k0_part11_eq_skeleton]; unfold k0_part11_skel
  simp only [semSignalWord, semWaitWord, Prog.lift, Prog.bind_op, Prog.bind_ret, Prog.pure_eq_ret, Prog.bind_assoc, wp_deviceId]
  iintro #HR #HL HO Hs Hw1 Hv1 Hf Ha Hk
  iapply (wp_startE c (s01 cwM) wk1 d17 rfl q (cwC0 m c) (mats m c 5) rfl) $$ Hs Hw1 Hv1
  iintro Hg
  iapply (wp_done c d16 wk0 E (sends2 c) (low2 c (Nat.le_of_ble_eq_true rfl)) (credW _)) $$ Hf HO HL
  iintro Hw Hv HO
  iapply (wp_slot0 c E) $$ Hw
  iintro Hw
  iapply (wp_ldAcc c v) $$ Ha
  iintro Ha
  iapply (wp_ldAcc c v) $$ Ha
  iintro Ha
  iapply (wp_stAcc c v _ (upd t (eid e 0#32) E v) rfl rfl) $$ Ha
  iintro Ha
  iapply Hk $$ HO Hg Ha Hw Hv

/-- The sixth expert. -/
theorem part12 (c : Dev nD) (t : Rt F) (e : BitVec 32) (q : PosShare TreeShare) (E : Mat F) (v : FVec F S2048x1024 .f32)
    {α : Type} {Q : α → sProp 𝕄} {k : _ → Prog (TpuEff nD τ sig (Elt F) Λ₀ .tc) α} :
    records m K ⊢ iprop(levAts L lv -∗ owesE c (sends2 c) -∗ pts (s00 ccM) c q (ccC0 m c) -∗ (∃ E, holds wk0 c E) -∗ semVal (dCell c d16) 0 -∗ fly c d17 wk1 E -∗ acc c v -∗ (owesE c (sends2 c) -∗ fly c d16 wk0 (mats m c 6) -∗ acc c (upd t (eid e 1#32) E v) -∗ holds wk1 c E -∗ semVal (dCell c d17) 0 -∗ wp frame (wpE (defs₀ (F := F)) 𝒱₀ (c : Thread nD τ) none) Set.univ (k ⟨⟩) Q)
      -∗ wp frame (wpE (defs₀ (F := F)) 𝒱₀ (c : Thread nD τ) none) Set.univ (k0_part12 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e >>= k) Q) := by
  simp only [k0_part12_eq_skeleton]; unfold k0_part12_skel
  simp only [semSignalWord, semWaitWord, Prog.lift, Prog.bind_op, Prog.bind_ret, Prog.pure_eq_ret, Prog.bind_assoc, wp_deviceId]
  iintro #HR #HL HO Hs Hw1 Hv1 Hf Ha Hk
  iapply (wp_startE c (s00 ccM) wk0 d16 rfl q (ccC0 m c) (mats m c 6) rfl) $$ Hs Hw1 Hv1
  iintro Hg
  iapply (wp_done c d17 wk1 E (sends2 c) (low2 c (Nat.le_of_ble_eq_true rfl)) (credW _)) $$ Hf HO HL
  iintro Hw Hv HO
  iapply (wp_slot1 c E) $$ Hw
  iintro Hw
  iapply (wp_ldAcc c v) $$ Ha
  iintro Ha
  iapply (wp_ldAcc c v) $$ Ha
  iintro Ha
  iapply (wp_stAcc c v _ (upd t (eid e 1#32) E v) rfl rfl) $$ Ha
  iintro Ha
  iapply Hk $$ HO Hg Ha Hw Hv

/-- The seventh expert. -/
theorem part13 (c : Dev nD) (t : Rt F) (e : BitVec 32) (q : PosShare TreeShare) (E : Mat F) (v : FVec F S2048x1024 .f32)
    {α : Type} {Q : α → sProp 𝕄} {k : _ → Prog (TpuEff nD τ sig (Elt F) Λ₀ .tc) α} :
    records m K ⊢ iprop(levAts L lv -∗ owesE c (sends2 c) -∗ pts (s01 ccM) c q (ccC0 m c) -∗ (∃ E, holds wk1 c E) -∗ semVal (dCell c d17) 0 -∗ fly c d16 wk0 E -∗ acc c v -∗ (owesE c (sends2 c) -∗ fly c d17 wk1 (mats m c 7) -∗ acc c (upd t (eid e 2#32) E v) -∗ holds wk0 c E -∗ semVal (dCell c d16) 0 -∗ wp frame (wpE (defs₀ (F := F)) 𝒱₀ (c : Thread nD τ) none) Set.univ (k ⟨⟩) Q)
      -∗ wp frame (wpE (defs₀ (F := F)) 𝒱₀ (c : Thread nD τ) none) Set.univ (k0_part13 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e >>= k) Q) := by
  simp only [k0_part13_eq_skeleton]; unfold k0_part13_skel
  simp only [semSignalWord, semWaitWord, Prog.lift, Prog.bind_op, Prog.bind_ret, Prog.pure_eq_ret, Prog.bind_assoc, wp_deviceId]
  iintro #HR #HL HO Hs Hw1 Hv1 Hf Ha Hk
  iapply (wp_startE c (s01 ccM) wk1 d17 rfl q (ccC0 m c) (mats m c 7) rfl) $$ Hs Hw1 Hv1
  iintro Hg
  iapply (wp_done c d16 wk0 E (sends2 c) (low2 c (Nat.le_of_ble_eq_true rfl)) (credW _)) $$ Hf HO HL
  iintro Hw Hv HO
  iapply (wp_slot0 c E) $$ Hw
  iintro Hw
  iapply (wp_ldAcc c v) $$ Ha
  iintro Ha
  iapply (wp_ldAcc c v) $$ Ha
  iintro Ha
  iapply (wp_stAcc c v _ (upd t (eid e 2#32) E v) rfl rfl) $$ Ha
  iintro Ha
  iapply Hk $$ HO Hg Ha Hw Hv

/-- The eighth expert. -/
theorem part14 (c : Dev nD) (t : Rt F) (e : BitVec 32) (E : Mat F) (v : FVec F S2048x1024 .f32)
    {α : Type} {Q : α → sProp 𝕄} {k : _ → Prog (TpuEff nD τ sig (Elt F) Λ₀ .tc) α} :
    records m K ⊢ iprop(levAts L lv -∗ owesE c (sends2 c) -∗ fly c d17 wk1 E -∗ acc c v -∗ (owesE c (sends2 c) -∗ acc c (upd t (eid e 3#32) E v) -∗ holds wk1 c E -∗ semVal (dCell c d17) 0 -∗ wp frame (wpE (defs₀ (F := F)) 𝒱₀ (c : Thread nD τ) none) Set.univ (k ⟨⟩) Q)
      -∗ wp frame (wpE (defs₀ (F := F)) 𝒱₀ (c : Thread nD τ) none) Set.univ (k0_part14 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e >>= k) Q) := by
  simp only [k0_part14_eq_skeleton]; unfold k0_part14_skel
  simp only [semSignalWord, semWaitWord, Prog.lift, Prog.bind_op, Prog.bind_ret, Prog.pure_eq_ret, Prog.bind_assoc, wp_deviceId]
  iintro #HR #HL HO Hf Ha Hk
  iapply (wp_done c d17 wk1 E (sends2 c) (low2 c (Nat.le_of_ble_eq_true rfl)) (credW _)) $$ Hf HO HL
  iintro Hw Hv HO
  iapply (wp_slot1 c E) $$ Hw
  iintro Hw
  iapply (wp_ldAcc c v) $$ Ha
  iintro Ha
  iapply (wp_ldAcc c v) $$ Ha
  iintro Ha
  iapply (wp_stAcc c v _ (upd t (eid e 3#32) E v) rfl rfl) $$ Ha
  iintro Ha
  iapply Hk $$ HO Ha Hw Hv

/-- The second round's landings. -/
theorem part15 (c : Dev nD) (v13 v24 : BitVec 32)
    {α : Type} {Q : α → sProp 𝕄} {k : _ → Prog (TpuEff nD τ sig (Elt F) Λ₀ .tc) α} :
    records m K ⊢ iprop(levAts L lv -∗ owesE c (sends2 c) -∗ due c d5 -∗ due c d8 -∗ due c d11 -∗ (owesE c (sends2 c) -∗ semVal (dCell c d5) 0 -∗ semVal (dCell c d8) 0 -∗ semVal (dCell c d11) 0 -∗ pts (pc1 cwM) c fullShare (cwC1 m c) -∗ wp frame (wpE (defs₀ (F := F)) 𝒱₀ (c : Thread nD τ) none) Set.univ (k ⟨⟩) Q)
      -∗ wp frame (wpE (defs₀ (F := F)) 𝒱₀ (c : Thread nD τ) none) Set.univ (k0_part15 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v13 v24 >>= k) Q) := by
  simp only [k0_part15_eq_skeleton]; unfold k0_part15_skel
  simp only [semSignalWord, semWaitWord, Prog.lift, Prog.bind_op, Prog.bind_ret, Prog.pure_eq_ret, Prog.bind_assoc, wp_deviceId]
  iintro #HR #HL HO Hd1 Hd2 Hd3 Hk
  iapply (wp_waitC m K c 2 d5 rfl (by decide) (by decide) (sends2 c) (low2 c (Nat.le_of_ble_eq_true rfl)) (credN _)) $$ HR Hd1 HO HL
  iintro Hz1 HO -
  iapply (wp_waitC m K c 5 d8 rfl (by decide) (by decide) (sends2 c) (low2 c (Nat.le_of_ble_eq_true rfl)) (credN _)) $$ HR Hd2 HO HL
  iintro Hz2 HO Hp
  ihave Hp := (Entails.of_eq (got8 m c)) $$ Hp
  iapply (wp_waitC m K c 8 d11 rfl (by decide) (by decide) (sends2 c) (low2 c (Nat.le_of_ble_eq_true rfl)) (credN _)) $$ HR Hd3 HO HL
  iintro Hz3 HO -
  iapply Hk $$ HO Hz1 Hz2 Hz3 Hp

/-- The last transfers. -/
theorem part16 (c : Dev nD) (v13 v24 : BitVec 32)
    {α : Type} {Q : α → sProp 𝕄} {k : _ → Prog (TpuEff nD τ sig (Elt F) Λ₀ .tc) α} :
    records m K ⊢ iprop(levAts L lv -∗ owesE c (sends2 c) -∗ due c d14 -∗ pts (pc1 cwM) c fullShare (cwC1 m c) -∗ (∃ fd, pts (pc2 cwM) (nxt c) fullShare fd) -∗ (∃ fd, pts (pc2 ccM) (prv c) fullShare fd) -∗ ticket c (nxt c) d6 d9 -∗ ticket c (prv c) d12 d15 -∗ (owesE c [] -∗ semVal (dCell c d14) 0 -∗ due c d6 -∗ due c d12 -∗ pts (pc1 cwM) c fullShare.right (cwC1 m c) -∗ pts (pc1 ccM) c fullShare.right (ccC1 m c) -∗ wp frame (wpE (defs₀ (F := F)) 𝒱₀ (c : Thread nD τ) none) Set.univ (k ⟨sel4, Scalar.remsi (Scalar.subi (wMe c) 2#32) sel4⟩) Q)
      -∗ wp frame (wpE (defs₀ (F := F)) 𝒱₀ (c : Thread nD τ) none) Set.univ (k0_part16 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 c (wMe c) v13 v24 >>= k) Q) := by
  simp only [k0_part16_eq_skeleton]; unfold k0_part16_skel
  simp only [semSignalWord, semWaitWord, Prog.lift, Prog.bind_op, Prog.bind_ret, Prog.pure_eq_ret, Prog.bind_assoc, wp_deviceId]
  iintro #HR #HL HO Hd Hp1 Hd1 Hd2 Ht1 Ht2 Hk
  iapply (wp_waitC m K c 11 d14 rfl (by decide) (by decide) (sends2 c) (low2 c (Nat.le_of_ble_eq_true rfl)) (credN _)) $$ HR Hd HO HL
  iintro Hz HO Hp2
  ihave Hp2 := (Entails.of_eq (got14 m c)) $$ Hp2
  ihave Hp1 := (pts_halves _ _ _).1 $$ Hp1
  icases Hp1 with ⟨Hs1, Hr1⟩
  ihave Hp2 := (pts_halves _ _ _).1 $$ Hp2
  icases Hp2 with ⟨Hs2, Hr2⟩
  iapply (wp_sendC m K c (nxt c) _ (dev7_eq c) (pc1 cwM) (pc2 cwM) 3 6 d6 d9 rfl rfl (by decide) (by decide) (by decide) (by decide) (by decide) rfl fullShare.left (cwC1 m c) (m (((nxt c : Dev nD) : Thread nD τ).loc main_v1_1)) (pay9 m c) _) $$ HR Hs1 Hd1 HO Ht1
  iintro Hu1 HO
  iapply (wp_sendC m K c (prv c) _ (dev8_eq c) (pc1 ccM) (pc2 ccM) 9 12 d12 d15 rfl rfl (by decide) (by decide) (by decide) (by decide) (by decide) rfl fullShare.left (ccC1 m c) (m (((prv c : Dev nD) : Thread nD τ).loc main_v1_2)) (pay15 m c) _) $$ HR Hs2 Hd2 HO Ht2
  iintro Hu2 HO
  iapply Hk $$ HO Hz Hu1 Hu2 Hr1 Hr2

/-- Words alone. -/
theorem part17 (c : Dev nD)
    {α : Type} {Q : α → sProp 𝕄} {k : _ → Prog (TpuEff nD τ sig (Elt F) Λ₀ .tc) α} :
    records m K ⊢ iprop(levAts L lv -∗ owesE c [] -∗ (owesE c [] -∗ wp frame (wpE (defs₀ (F := F)) 𝒱₀ (c : Thread nD τ) none) Set.univ (k ⟨wSub c 2#32, wSub c 2#32, wAdd c 2#32, sel4, Scalar.remsi (Scalar.addi (wMe c) 2#32) sel4, Scalar.cmpi .ne (Scalar.remsi (Scalar.addi (wMe c) 2#32) sel4) 0#32, Scalar.cmpi .slt (Scalar.remsi (Scalar.addi (wMe c) 2#32) sel4) 0#32, Scalar.cmpi .slt sel4 0#32⟩) Q)
      -∗ wp frame (wpE (defs₀ (F := F)) 𝒱₀ (c : Thread nD τ) none) Set.univ (k0_part17 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 (wMe c) sel4 (Scalar.remsi (Scalar.subi (wMe c) 2#32) sel4) >>= k) Q) := by
  simp only [k0_part17_eq_skeleton]; unfold k0_part17_skel
  simp only [semSignalWord, semWaitWord, Prog.lift, Prog.bind_op, Prog.bind_ret, Prog.pure_eq_ret, Prog.bind_assoc, wp_deviceId]
  iintro #HR #HL HO Hk
  iapply Hk $$ HO

/-- The ninth expert on its way. -/
theorem part18 (c : Dev nD) (t : Rt F) (e : BitVec 32) (q : PosShare TreeShare)
    {α : Type} {Q : α → sProp 𝕄} {k : _ → Prog (TpuEff nD τ sig (Elt F) Λ₀ .tc) α} :
    records m K ⊢ iprop(levAts L lv -∗ owesE c [] -∗ pts (s10 cwM) c q (cwC1 m c) -∗ pts (s11 cwM) c q (cwC1 m c) -∗ (∃ E, holds wk0 c E) -∗ (∃ E, holds wk1 c E) -∗ semVal (dCell c d16) 0 -∗ semVal (dCell c d17) 0 -∗ (owesE c [] -∗ holds wk0 c (mats m c 8) -∗ semVal (dCell c d16) 0 -∗ fly c d17 wk1 (mats m c 9) -∗ wp frame (wpE (defs₀ (F := F)) 𝒱₀ (c : Thread nD τ) none) Set.univ (k ⟨wAdd c 2#32, mulf (sitofp .f32 (extui 32 (cmpi .eq t.a (broadcast S2048x1 (eid e 0#32))) natLt_1_32)) t.wa, cmpi .eq t.b (broadcast S2048x1 (eid e 0#32))⟩) Q)
      -∗ wp frame (wpE (defs₀ (F := F)) 𝒱₀ (c : Thread nD τ) none) Set.univ (k0_part18 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.a t.b t.wa e sel4 (Scalar.remsi (Scalar.addi (wMe c) 2#32) sel4) (Scalar.cmpi .ne (Scalar.remsi (Scalar.addi (wMe c) 2#32) sel4) 0#32) (Scalar.cmpi .slt (Scalar.remsi (Scalar.addi (wMe c) 2#32) sel4) 0#32) (Scalar.cmpi .slt sel4 0#32) >>= k) Q) := by
  simp only [k0_part18_eq_skeleton]; unfold k0_part18_skel
  simp only [semSignalWord, semWaitWord, Prog.lift, Prog.bind_op, Prog.bind_ret, Prog.pure_eq_ret, Prog.bind_assoc, wp_deviceId]
  iintro #HR #HL HO Hs1 Hs2 Hw0 Hw1 Hv0 Hv1 Hk
  iapply (wp_startE c (s10 cwM) wk0 d16 rfl q (cwC1 m c) (mats m c 8) rfl) $$ Hs1 Hw0 Hv0
  iintro Hf
  iapply (wp_startE c (s11 cwM) wk1 d17 rfl q (cwC1 m c) (mats m c 9) rfl) $$ Hs2 Hw1 Hv1
  iintro Hg
  iapply (wp_done c d16 wk0 _ [] (lowNil) (credW _)) $$ Hf HO HL
  iintro Hw Hv HO
  iapply Hk $$ HO Hw Hv Hg

/-- The ninth expert. -/
theorem part19 (c : Dev nD) (t : Rt F) (e e' : BitVec 32) (q : PosShare TreeShare) (E E' : Mat F) (v : FVec F S2048x1024 .f32)
    {α : Type} {Q : α → sProp 𝕄} {k : _ → Prog (TpuEff nD τ sig (Elt F) Λ₀ .tc) α} :
    records m K ⊢ iprop(levAts L lv -∗ owesE c [] -∗ holds wk0 c E -∗ semVal (dCell c d16) 0 -∗ fly c d17 wk1 E' -∗ pts (s10 ccM) c q (ccC1 m c) -∗ acc c v -∗ (owesE c [] -∗ acc c (upd t (eid e 0#32) E v) -∗ fly c d16 wk0 (mats m c 10) -∗ holds wk1 c E' -∗ semVal (dCell c d17) 0 -∗ wp frame (wpE (defs₀ (F := F)) 𝒱₀ (c : Thread nD τ) none) Set.univ (k ⟨eid e' 1#32, sitofp .f32 (extui 32 (cmpi .eq t.a (broadcast S2048x1 (eid e' 1#32))) natLt_1_32)⟩) Q)
      -∗ wp frame (wpE (defs₀ (F := F)) 𝒱₀ (c : Thread nD τ) none) Set.univ (k0_part19 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.wb e' (mulf (sitofp .f32 (extui 32 (cmpi .eq t.a (broadcast S2048x1 (eid e 0#32))) natLt_1_32)) t.wa) (cmpi .eq t.b (broadcast S2048x1 (eid e 0#32))) >>= k) Q) := by
  simp only [k0_part19_eq_skeleton]; unfold k0_part19_skel
  simp only [semSignalWord, semWaitWord, Prog.lift, Prog.bind_op, Prog.bind_ret, Prog.pure_eq_ret, Prog.bind_assoc, wp_deviceId]
  iintro #HR #HL HO Hw Hv Hg Hs Ha Hk
  iapply (wp_slot0 c E) $$ Hw
  iintro Hw
  iapply (wp_ldAcc c v) $$ Ha
  iintro Ha
  iapply (wp_ldAcc c v) $$ Ha
  iintro Ha
  iapply (wp_stAcc c v _ (upd t (eid e 0#32) E v) rfl rfl) $$ Ha
  iintro Ha
  ihave Hw := (holds_any c wk0 _) $$ Hw
  iapply (wp_startE c (s10 ccM) wk0 d16 rfl q (ccC1 m c) (mats m c 10) rfl) $$ Hs Hw Hv
  iintro Hf
  iapply (wp_done c d17 wk1 E' [] (lowNil) (credW _)) $$ Hg HO HL
  iintro Hx Hy HO
  iapply Hk $$ HO Ha Hf Hx Hy

/-- The tenth expert. -/
theorem part20 (c : Dev nD) (t : Rt F) (e e' : BitVec 32) (q : PosShare TreeShare) (E E' : Mat F) (v : FVec F S2048x1024 .f32)
    {α : Type} {Q : α → sProp 𝕄} {k : _ → Prog (TpuEff nD τ sig (Elt F) Λ₀ .tc) α} :
    records m K ⊢ iprop(levAts L lv -∗ owesE c [] -∗ holds wk1 c E -∗ semVal (dCell c d17) 0 -∗ fly c d16 wk0 E' -∗ pts (s11 ccM) c q (ccC1 m c) -∗ acc c v -∗ (owesE c [] -∗ acc c (upd t (e) E v) -∗ fly c d17 wk1 (mats m c 11) -∗ holds wk0 c E' -∗ semVal (dCell c d16) 0 -∗ wp frame (wpE (defs₀ (F := F)) 𝒱₀ (c : Thread nD τ) none) Set.univ (k ⟨eid e' 2#32, broadcast S2048x1 (eid e' 2#32)⟩) Q)
      -∗ wp frame (wpE (defs₀ (F := F)) 𝒱₀ (c : Thread nD τ) none) Set.univ (k0_part20 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.b t.wa t.wb e' e (sitofp .f32 (extui 32 (cmpi .eq t.a (broadcast S2048x1 e)) natLt_1_32)) >>= k) Q) := by
  simp only [k0_part20_eq_skeleton]; unfold k0_part20_skel
  simp only [semSignalWord, semWaitWord, Prog.lift, Prog.bind_op, Prog.bind_ret, Prog.pure_eq_ret, Prog.bind_assoc, wp_deviceId]
  iintro #HR #HL HO Hw Hv Hg Hs Ha Hk
  iapply (wp_slot1 c E) $$ Hw
  iintro Hw
  iapply (wp_ldAcc c v) $$ Ha
  iintro Ha
  iapply (wp_ldAcc c v) $$ Ha
  iintro Ha
  iapply (wp_stAcc c v _ (upd t (e) E v) rfl rfl) $$ Ha
  iintro Ha
  ihave Hw := (holds_any c wk1 _) $$ Hw
  iapply (wp_startE c (s11 ccM) wk1 d17 rfl q (ccC1 m c) (mats m c 11) rfl) $$ Hs Hw Hv
  iintro Hf
  iapply (wp_done c d16 wk0 E' [] (lowNil) (credW _)) $$ Hg HO HL
  iintro Hx Hy HO
  iapply Hk $$ HO Ha Hf Hx Hy

/-- The eleventh expert. -/
theorem part21 (c : Dev nD) (t : Rt F) (e e' : BitVec 32) (E E' : Mat F) (v : FVec F S2048x1024 .f32)
    {α : Type} {Q : α → sProp 𝕄} {k : _ → Prog (TpuEff nD τ sig (Elt F) Λ₀ .tc) α} :
    records m K ⊢ iprop(levAts L lv -∗ owesE c [] -∗ holds wk0 c E -∗ fly c d17 wk1 E' -∗ acc c v -∗ (owesE c [] -∗ acc c (upd t (e) E v) -∗ holds wk0 c E -∗ holds wk1 c E' -∗ semVal (dCell c d17) 0 -∗ wp frame (wpE (defs₀ (F := F)) 𝒱₀ (c : Thread nD τ) none) Set.univ (k (mulf t.x (broadcastTo S2048x512 (coef t (eid e' 3#32)) broadcasts_S2048x1_S2048x512))) Q)
      -∗ wp frame (wpE (defs₀ (F := F)) 𝒱₀ (c : Thread nD τ) none) Set.univ (k0_part21 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e' e (broadcast S2048x1 e) >>= k) Q) := by
  simp only [k0_part21_eq_skeleton]; unfold k0_part21_skel
  simp only [semSignalWord, semWaitWord, Prog.lift, Prog.bind_op, Prog.bind_ret, Prog.pure_eq_ret, Prog.bind_assoc, wp_deviceId]
  iintro #HR #HL HO Hw Hg Ha Hk
  iapply (wp_slot0 c E) $$ Hw
  iintro Hw
  iapply (wp_ldAcc c v) $$ Ha
  iintro Ha
  iapply (wp_ldAcc c v) $$ Ha
  iintro Ha
  iapply (wp_stAcc c v _ (upd t (e) E v) rfl rfl) $$ Ha
  iintro Ha
  iapply (wp_done c d17 wk1 E' [] (lowNil) (credW _)) $$ Hg HO HL
  iintro Hx Hy HO
  iapply Hk $$ HO Ha Hw Hx Hy

/-- The twelfth expert. -/
theorem part22 (c : Dev nD) (t : Rt F) (v24 e' : BitVec 32) (E : Mat F) (v : FVec F S2048x1024 .f32)
    {α : Type} {Q : α → sProp 𝕄} {k : _ → Prog (TpuEff nD τ sig (Elt F) Λ₀ .tc) α} :
    records m K ⊢ iprop(levAts L lv -∗ owesE c [] -∗ holds wk1 c E -∗ acc c v -∗ due c d6 -∗ due c d9 -∗ (owesE c [] -∗ acc c (upd t (eid e' 3#32) E v) -∗ holds wk1 c E -∗ semVal (dCell c d6) 0 -∗ semVal (dCell c d9) 0 -∗ pts (pc2 cwM) c fullShare (cwC2 m c) -∗ wp frame (wpE (defs₀ (F := F)) 𝒱₀ (c : Thread nD τ) none) Set.univ (k ⟨⟩) Q)
      -∗ wp frame (wpE (defs₀ (F := F)) 𝒱₀ (c : Thread nD τ) none) Set.univ (k0_part22 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 v24 (mulf t.x (broadcastTo S2048x512 (coef t (eid e' 3#32)) broadcasts_S2048x1_S2048x512)) >>= k) Q) := by
  simp only [k0_part22_eq_skeleton]; unfold k0_part22_skel
  simp only [semSignalWord, semWaitWord, Prog.lift, Prog.bind_op, Prog.bind_ret, Prog.pure_eq_ret, Prog.bind_assoc, wp_deviceId]
  iintro #HR #HL HO Hw Ha Hd1 Hd2 Hk
  iapply (wp_slot1 c E) $$ Hw
  iintro Hw
  iapply (wp_ldAcc c v) $$ Ha
  iintro Ha
  iapply (wp_ldAcc c v) $$ Ha
  iintro Ha
  iapply (wp_stAcc c v _ (upd t (eid e' 3#32) E v) rfl rfl) $$ Ha
  iintro Ha
  iapply (wp_waitC m K c 3 d6 rfl (by decide) (by decide) [] (lowNil) (credN _)) $$ HR Hd1 HO HL
  iintro Hz1 HO -
  iapply (wp_waitC m K c 6 d9 rfl (by decide) (by decide) [] (lowNil) (credN _)) $$ HR Hd2 HO HL
  iintro Hz2 HO Hp
  ihave Hp := (Entails.of_eq (got9 m c)) $$ Hp
  iapply Hk $$ HO Ha Hw Hz1 Hz2 Hp

/-- The last landings. -/
theorem part23 (c : Dev nD) (v13 : BitVec 32)
    {α : Type} {Q : α → sProp 𝕄} {k : _ → Prog (TpuEff nD τ sig (Elt F) Λ₀ .tc) α} :
    records m K ⊢ iprop(levAts L lv -∗ owesE c [] -∗ due c d12 -∗ due c d15 -∗ (owesE c [] -∗ semVal (dCell c d12) 0 -∗ semVal (dCell c d15) 0 -∗ pts (pc2 ccM) c fullShare (ccC2 m c) -∗ wp frame (wpE (defs₀ (F := F)) 𝒱₀ (c : Thread nD τ) none) Set.univ (k ⟨wSub c 3#32, sel4, Scalar.remsi (Scalar.subi (wMe c) 3#32) sel4⟩) Q)
      -∗ wp frame (wpE (defs₀ (F := F)) 𝒱₀ (c : Thread nD τ) none) Set.univ (k0_part23 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 (wMe c) v13 >>= k) Q) := by
  simp only [k0_part23_eq_skeleton]; unfold k0_part23_skel
  simp only [semSignalWord, semWaitWord, Prog.lift, Prog.bind_op, Prog.bind_ret, Prog.pure_eq_ret, Prog.bind_assoc, wp_deviceId]
  iintro #HR #HL HO Hd1 Hd2 Hk
  iapply (wp_waitC m K c 9 d12 rfl (by decide) (by decide) [] (lowNil) (credN _)) $$ HR Hd1 HO HL
  iintro Hz1 HO -
  iapply (wp_waitC m K c 12 d15 rfl (by decide) (by decide) [] (lowNil) (credN _)) $$ HR Hd2 HO HL
  iintro Hz2 HO Hp
  ihave Hp := (Entails.of_eq (got15 m c)) $$ Hp
  iapply Hk $$ HO Hz1 Hz2 Hp

/-- Words alone. -/
theorem part24 (c : Dev nD)
    {α : Type} {Q : α → sProp 𝕄} {k : _ → Prog (TpuEff nD τ sig (Elt F) Λ₀ .tc) α} :
    records m K ⊢ iprop(levAts L lv -∗ owesE c [] -∗ (owesE c [] -∗ wp frame (wpE (defs₀ (F := F)) 𝒱₀ (c : Thread nD τ) none) Set.univ (k ⟨wSub c 3#32, wAdd c 3#32, wAdd c 3#32⟩) Q)
      -∗ wp frame (wpE (defs₀ (F := F)) 𝒱₀ (c : Thread nD τ) none) Set.univ (k0_part24 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 (wMe c) sel4 (Scalar.remsi (Scalar.subi (wMe c) 3#32) sel4) >>= k) Q) := by
  simp only [k0_part24_eq_skeleton]; unfold k0_part24_skel
  simp only [semSignalWord, semWaitWord, Prog.lift, Prog.bind_op, Prog.bind_ret, Prog.pure_eq_ret, Prog.bind_assoc, wp_deviceId]
  iintro #HR #HL HO Hk
  iapply Hk $$ HO

/-- The thirteenth expert on its way. -/
theorem part25 (c : Dev nD) (t : Rt F) (e : BitVec 32) (q : PosShare TreeShare) (v : FVec F S2048x1024 .f32)
    {α : Type} {Q : α → sProp 𝕄} {k : _ → Prog (TpuEff nD τ sig (Elt F) Λ₀ .tc) α} :
    records m K ⊢ iprop(levAts L lv -∗ owesE c [] -∗ pts (s20 cwM) c q (cwC2 m c) -∗ pts (s21 cwM) c q (cwC2 m c) -∗ (∃ E, holds wk0 c E) -∗ (∃ E, holds wk1 c E) -∗ semVal (dCell c d16) 0 -∗ semVal (dCell c d17) 0 -∗ acc c v -∗ (owesE c [] -∗ acc c v -∗ (∃ E, holds wk0 c E) -∗ semVal (dCell c d16) 0 -∗ fly c d17 wk1 (mats m c 13) -∗ wp frame (wpE (defs₀ (F := F)) 𝒱₀ (c : Thread nD τ) none) Set.univ (k (upd t (eid e 0#32) (mats m c 12) v)) Q)
      -∗ wp frame (wpE (defs₀ (F := F)) 𝒱₀ (c : Thread nD τ) none) Set.univ (k0_part25 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e >>= k) Q) := by
  simp only [k0_part25_eq_skeleton]; unfold k0_part25_skel
  simp only [semSignalWord, semWaitWord, Prog.lift, Prog.bind_op, Prog.bind_ret, Prog.pure_eq_ret, Prog.bind_assoc, wp_deviceId]
  iintro #HR #HL HO Hs1 Hs2 Hw0 Hw1 Hv0 Hv1 Ha Hk
  iapply (wp_startE c (s20 cwM) wk0 d16 rfl q (cwC2 m c) (mats m c 12) rfl) $$ Hs1 Hw0 Hv0
  iintro Hf
  iapply (wp_startE c (s21 cwM) wk1 d17 rfl q (cwC2 m c) (mats m c 13) rfl) $$ Hs2 Hw1 Hv1
  iintro Hg
  iapply (wp_done c d16 wk0 _ [] (lowNil) (credW _)) $$ Hf HO HL
  iintro Hw Hv HO
  iapply (wp_slot0 c _) $$ Hw
  iintro Hw
  iapply (wp_ldAcc c v) $$ Ha
  iintro Ha
  ihave Hw := (holds_any c wk0 _) $$ Hw
  iapply Hk $$ HO Ha Hw Hv Hg

/-- The thirteenth expert. -/
theorem part26 (c : Dev nD) (t : Rt F) (e : BitVec 32) (q : PosShare TreeShare) (E : Mat F) (v w : FVec F S2048x1024 .f32)
    {α : Type} {Q : α → sProp 𝕄} {k : _ → Prog (TpuEff nD τ sig (Elt F) Λ₀ .tc) α} :
    records m K ⊢ iprop(levAts L lv -∗ owesE c [] -∗ acc c v -∗ pts (s20 ccM) c q (ccC2 m c) -∗ (∃ E, holds wk0 c E) -∗ semVal (dCell c d16) 0 -∗ fly c d17 wk1 E -∗ (owesE c [] -∗ acc c w -∗ fly c d16 wk0 (mats m c 14) -∗ (∃ E, holds wk1 c E) -∗ semVal (dCell c d17) 0 -∗ wp frame (wpE (defs₀ (F := F)) 𝒱₀ (c : Thread nD τ) none) Set.univ (k (term t (eid e 1#32) E)) Q)
      -∗ wp frame (wpE (defs₀ (F := F)) 𝒱₀ (c : Thread nD τ) none) Set.univ (k0_part26 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e w >>= k) Q) := by
  simp only [k0_part26_eq_skeleton]; unfold k0_part26_skel
  simp only [semSignalWord, semWaitWord, Prog.lift, Prog.bind_op, Prog.bind_ret, Prog.pure_eq_ret, Prog.bind_assoc, wp_deviceId]
  iintro #HR #HL HO Ha Hs Hw Hv Hg Hk
  iapply (wp_ldAcc c v) $$ Ha
  iintro Ha
  iapply (wp_stAcc c v _ (w) rfl rfl) $$ Ha
  iintro Ha
  iapply (wp_startE c (s20 ccM) wk0 d16 rfl q (ccC2 m c) (mats m c 14) rfl) $$ Hs Hw Hv
  iintro Hf
  iapply (wp_done c d17 wk1 E [] (lowNil) (credW _)) $$ Hg HO HL
  iintro Hx Hy HO
  iapply (wp_slot1 c E) $$ Hx
  iintro Hx
  ihave Hx := (holds_any c wk1 _) $$ Hx
  iapply Hk $$ HO Ha Hf Hx Hy

/-- The fourteenth expert. -/
theorem part27 (c : Dev nD) (t : Rt F) (e e' : BitVec 32) (q : PosShare TreeShare) (E E' : Mat F) (v : FVec F S2048x1024 .f32)
    {α : Type} {Q : α → sProp 𝕄} {k : _ → Prog (TpuEff nD τ sig (Elt F) Λ₀ .tc) α} :
    records m K ⊢ iprop(levAts L lv -∗ owesE c [] -∗ acc c v -∗ pts (s21 ccM) c q (ccC2 m c) -∗ (∃ E, holds wk1 c E) -∗ semVal (dCell c d17) 0 -∗ fly c d16 wk0 E' -∗ (owesE c [] -∗ acc c (upd t (eid e 1#32) E v) -∗ fly c d17 wk1 (mats m c 15) -∗ holds wk0 c E' -∗ semVal (dCell c d16) 0 -∗ wp frame (wpE (defs₀ (F := F)) 𝒱₀ (c : Thread nD τ) none) Set.univ (k ⟨mulf t.x (broadcastTo S2048x512 (coef t (eid e' 2#32)) broadcasts_S2048x1_S2048x512), shapeCast S512x1024 (lift1 E') shapeCasts_S1x512x1024_S512x1024, constant S2048x1024 .f32 0x00000000#32⟩) Q)
      -∗ wp frame (wpE (defs₀ (F := F)) 𝒱₀ (c : Thread nD τ) none) Set.univ (k0_part27 (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5 t.x t.a t.b t.wa t.wb e' (term t (eid e 1#32) E) >>= k) Q) := by
  simp only [k0_part27_eq_skeleton]; unfold k0_part27_skel
  simp only [semSignalWord, semWaitWord, Prog.lift, Prog.bind_op, Prog.bind_ret, Prog.pure_eq_ret, Prog.bind_assoc, wp_deviceId]
  iintro #HR #HL HO Ha Hs Hw Hv Hg Hk
  iapply (wp_ldAcc c v) $$ Ha
  iintro Ha
  iapply (wp_ldAcc c v) $$ Ha
  iintro Ha
  iapply (wp_stAcc c v _ (upd t (eid e 1#32) E v) rfl rfl) $$ Ha
  iintro Ha
  iapply (wp_startE c (s21 ccM) wk1 d17 rfl q (ccC2 m c) (mats m c 15) rfl) $$ Hs Hw Hv
  iintro Hf
  iapply (wp_done c d16 wk0 E' [] (lowNil) (credW _)) $$ Hg HO HL
  iintro Hx Hy HO
  iapply (wp_slot0 c E') $$ Hx
  iintro Hx
  iapply Hk $$ HO Ha Hf Hx Hy

end Cert.KernelIdeal.Moe

end
-- ==== Proof.Body.lean ====
/-
# The body, run
-/
module

public import proofs.«01_k».proof.Proof.PartsB

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- What device `c` brings to its body: the barrier's two duties, its position and its credit there, the tickets of its six
transfers, the dues of the six it receives. -/
def toks (c : Dev nD) : sProp 𝕄 :=
  iprop(dutyTok ER (barCell (prv c)) 0 true ∗ dutyTok ER (barCell (nxt c)) 0 false ∗ cred (tallyAt (barCell c) () 2) ∗ atPos ER (barCell c) 0 ∅ 0
    ∗ ticket c (nxt c) d4 d7 ∗ ticket c (nxt c) d5 d8 ∗ ticket c (nxt c) d6 d9
    ∗ ticket c (prv c) d10 d13 ∗ ticket c (prv c) d11 d14 ∗ ticket c (prv c) d12 d15
    ∗ due c d7 ∗ due c d8 ∗ due c d9 ∗ due c d13 ∗ due c d14 ∗ due c d15)

/-- The cells, all at rest. -/
def rests (c : Dev nD) : sProp 𝕄 :=
  iprop(semVal (barCell c) 0 ∗ semVal (dCell c d4) 0 ∗ semVal (dCell c d5) 0 ∗ semVal (dCell c d6) 0 ∗ semVal (dCell c d7) 0 ∗ semVal (dCell c d8) 0 ∗ semVal (dCell c d9) 0 ∗ semVal (dCell c d10) 0 ∗ semVal (dCell c d11) 0 ∗ semVal (dCell c d12) 0 ∗ semVal (dCell c d13) 0 ∗ semVal (dCell c d14) 0 ∗ semVal (dCell c d15) 0 ∗ semVal (dCell c d16) 0 ∗ semVal (dCell c d17) 0)

theorem fold (c : Dev nD) (t : Rt F) (n : ℕ) (a : FVec F S2048x1024 .f32) (h : a = accs t (ids c) (mats m c) n) :
    (acc c a : sProp 𝕄) ⊢ acc c (accs t (ids c) (mats m c) n) := by rw [h]

theorem barT_prv (c : Dev nD) : (barT (prv c) : sProp 𝕄) = iprop((∃ f, pts (pc0 cwM) c fullShare f) ∗ (∃ f, pts (pc1 cwM) c fullShare f) ∗ (∃ f, pts (pc2 cwM) c fullShare f)) := by
  unfold barT; rw [nxt_prv]
theorem barF_nxt (c : Dev nD) : (barF (nxt c) : sProp 𝕄) = iprop((∃ f, pts (pc0 ccM) c fullShare f) ∗ (∃ f, pts (pc1 ccM) c fullShare f) ∗ (∃ f, pts (pc2 ccM) c fullShare f)) := by
  unfold barF; rw [prv_nxt]
theorem share_halves (c : Dev nD) (q : PosShare TreeShare) (f : Buf (Elt F) (eM.view.loc (c : Thread nD τ))) :
    (eM.view.loc (c : Thread nD τ) ↦{q} f : sProp 𝕄) ⊢ iprop((eM.view.loc (c : Thread nD τ) ↦{q.left} f) ∗ (eM.view.loc (c : Thread nD τ) ↦{q.right} f)) :=
  (pointsTo_share (PosShare.mem_left_op_right q)).1

set_option maxRecDepth 4000 in
set_option maxHeartbeats 1600000 in
/-- The body, run once at a symbolic device. -/
theorem sound_body (c : Dev nD) (x : xM.view.ty.Contents (Elt F)) (r : rM.view.ty.Contents (Elt F)) (i : iM.view.ty.Contents (Elt F))
    (v : S2048x1024.Idx → Elt F .f32) (fw : Buf (Elt F) (cwM.view.loc (c : Thread nD τ))) (fc : Buf (Elt F) (ccM.view.loc (c : Thread nD τ)))
    (fs : Buf (Elt F) (wM.view.loc (c : Thread nD τ))) (Q : PUnit → sProp 𝕄) :
    records m K ⊢ iprop(levAts L lv -∗ toks c -∗ owesE c (debts c) -∗ xAt c x -∗ rAt c r -∗ iAt c i -∗ acc c v
      -∗ (eM.view.loc (c : Thread nD τ) ↦{fullShare} ewC m c) -∗ (cwM.view.loc (c : Thread nD τ) ↦{fullShare} fw) -∗ (ccM.view.loc (c : Thread nD τ) ↦{fullShare} fc)
      -∗ (wM.view.loc (c : Thread nD τ) ↦{fullShare} fs) -∗ semVal (dCell c d16) 0 -∗ semVal (dCell c d17) 0
      -∗ (rests c -∗ owesE c [] -∗ xAt c x -∗ rAt c r -∗ iAt c i -∗ acc c (accs (rtOf x r i) (ids c) (mats m c) 15)
          -∗ (eM.view.loc (c : Thread nD τ) ↦{fullShare.right.right} ewC m c)
          -∗ (∃ f : Buf (Elt F) (wM.view.loc (c : Thread nD τ)), wM.view.loc (c : Thread nD τ) ↦{fullShare} f) -∗ Q ⟨⟩)
      -∗ wp frame (wpE (defs₀ (F := F)) 𝒱₀ (c : Thread nD τ) none) Set.univ (cc0_body (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5) Q) := by
  rw [cc0_body_eq_skeleton]; unfold cc0_body_skel
  rw [k0_part28_eq_skeleton]; unfold k0_part28_skel
  simp only [Prog.bind_assoc]
  unfold toks
  iintro #HR #HL Htk HO Hx Hr Hi Ha He Hcw Hcc Hwk Hv16 Hv17 Hk
  icases Htk with ⟨Hb1, Hb2, Hbc, Hbat, Ht5, Ht6, Ht7, Ht8, Ht9, Ht10, Hu7, Hu8, Hu9, Hu13, Hu14, Hu15⟩
  -- the receive buffers, piece by piece, go to the neighbours with the barrier's signals
  ihave HcT := (pieces cwM c fw) $$ Hcw
  ihave HcF := (pieces ccM c fc) $$ Hcc
  ihave HT := (Entails.of_eq (barT_prv c).symm) $$ HcT
  ihave HF := (Entails.of_eq (barF_nxt c).symm) $$ HcF
  iapply (part1 m K c) $$ HR HL HO Hb1 Hb2 HT HF Hbc Hbat
  iintro Hz HO HF HT; dsimp only
  unfold barF barT
  icases HF with ⟨HF0, HF1, HF2⟩
  icases HT with ⟨HT0, HT1, HT2⟩
  iapply (part2 m K c _ x r i) $$ HR HL Hx Hr Hi
  iintro Hx Hr Hi; dsimp only
  -- the experts' weights: a half for the transfers, a quarter for the local copies, a quarter kept
  ihave He := (share_halves c fullShare (ewC m c)) $$ He
  icases He with ⟨HeL, HeR⟩
  ihave HeL := (carve_eM c _ _) $$ HeL
  icases HeL with ⟨HlL, HlH⟩
  ihave HeR := (share_halves c fullShare.right (ewC m c)) $$ HeR
  icases HeR with ⟨HeR, Hkeep⟩
  ihave HeR := (carve_eM c _ _) $$ HeR
  icases HeR with ⟨HrL, HrH⟩
  ihave HrL := (carve_eLo c _ _) $$ HrL
  icases HrL with ⟨He0, He1⟩
  ihave HrH := (carve_eHi c _ _) $$ HrH
  icases HrH with ⟨He2, He3⟩
  ihave Hw := (slots c fs) $$ Hwk
  icases Hw with ⟨Hw0, Hw1⟩
  ihave Hw0 := (holds_any c wk0 _) $$ Hw0
  ihave Hw1 := (holds_any c wk1 _) $$ Hw1
  iapply (part3 m K c _ fullShare.right.left) $$ HR HL HlL HlH HT0 HF0 HO Ht5 Ht8 He0 He1 Hw0 Hw1 Hv16 Hv17
  iintro Hu4 Hu10 HO Hf0 Hf1; dsimp only
  iapply (part4 m K c (rtOf x r i) _ _ _ _) $$ HR HL HO Hf0 Ha He2
  iintro HO Ha Hf0; dsimp only
  ihave Ha := (fold m c (rtOf x r i) 0 (term (rtOf x r i) (eid (wMe c) 0#32) (mats m c 0)) rfl) $$ Ha
  iapply (part5 m K c (rtOf x r i) _ _ _ _) $$ HR HL HO Hf1 Ha He3
  iintro HO Ha Hf1; dsimp only
  ihave Ha := (fold m c (rtOf x r i) 1 (upd (rtOf x r i) (eid (wMe c) 1#32) (mats m c 1) (accs (rtOf x r i) (ids c) (mats m c) 0)) rfl) $$ Ha
  iapply (part6 m K c (rtOf x r i) _ _ _ _) $$ HR HL HO Hf0 Hf1 Ha
  iintro HO Ha Hw0 Hv16 Hw1 Hv17; dsimp only
  ihave Ha := (fold m c (rtOf x r i) 2 (upd (rtOf x r i) (eid (wMe c) 2#32) (mats m c 2) (accs (rtOf x r i) (ids c) (mats m c) 1)) rfl) $$ Ha
  iapply (part7 m K c (rtOf x r i) _ _ _ _) $$ HR HL HO Hw1 Ha Hu4
  iintro HO Ha Hw1 Hz4; dsimp only
  ihave Ha := (fold m c (rtOf x r i) 3 (upd (rtOf x r i) (eid (wMe c) 3#32) (mats m c 3) (accs (rtOf x r i) (ids c) (mats m c) 2)) rfl) $$ Ha
  iapply (part8 m K c _ _) $$ HR HL HO Hu7 Hu10 Hu13
  iintro HO Hz7 Hz10 Hz13 Hp Hq; dsimp only
  ihave Hp := (pts_halves _ _ _).1 $$ Hp
  icases Hp with ⟨HpL, HpR⟩
  ihave Hq := (pts_halves _ _ _).1 $$ Hq
  icases Hq with ⟨HqL, HqR⟩
  ihave HpR := (carve_pc0 _ _ _ _) $$ HpR
  icases HpR with ⟨Hs0, Hs1⟩
  ihave HqR := (carve_pc0 _ _ _ _) $$ HqR
  icases HqR with ⟨Hs2, Hs3⟩
  iapply (part9 m K c _) $$ HR HL HO HpL HqL HT1 HF1 Ht6 Ht9
  iintro HO Hu5 Hu11; dsimp only
  ihave Hw0 := (holds_any c wk0 _) $$ Hw0
  ihave Hw1 := (holds_any c wk1 _) $$ Hw1
  iapply (part10 m K c _) $$ HR HL Hs0 Hw0 Hv16
  iintro Hf0; dsimp only
  iapply (part11 m K c (rtOf x r i) _ _ _ _) $$ HR HL HO Hs1 Hw1 Hv17 Hf0 Ha
  iintro HO Hf1 Ha Hw0 Hv16; dsimp only
  ihave Ha := (fold m c (rtOf x r i) 4 (upd (rtOf x r i) (eid (wSub c 1#32) 0#32) (mats m c 4) (accs (rtOf x r i) (ids c) (mats m c) 3)) rfl) $$ Ha
  ihave Hw0 := (holds_any c wk0 _) $$ Hw0
  iapply (part12 m K c (rtOf x r i) _ _ _ _) $$ HR HL HO Hs2 Hw0 Hv16 Hf1 Ha
  iintro HO Hf0 Ha Hw1 Hv17; dsimp only
  ihave Ha := (fold m c (rtOf x r i) 5 (upd (rtOf x r i) (eid (wSub c 1#32) 1#32) (mats m c 5) (accs (rtOf x r i) (ids c) (mats m c) 4)) rfl) $$ Ha
  ihave Hw1 := (holds_any c wk1 _) $$ Hw1
  iapply (part13 m K c (rtOf x r i) _ _ _ _) $$ HR HL HO Hs3 Hw1 Hv17 Hf0 Ha
  iintro HO Hf1 Ha Hw0 Hv16; dsimp only
  ihave Ha := (fold m c (rtOf x r i) 6 (upd (rtOf x r i) (eid (wAdd c 1#32) 2#32) (mats m c 6) (accs (rtOf x r i) (ids c) (mats m c) 5)) rfl) $$ Ha
  iapply (part14 m K c (rtOf x r i) _ _ _) $$ HR HL HO Hf1 Ha
  iintro HO Ha Hw1 Hv17; dsimp only
  ihave Ha := (fold m c (rtOf x r i) 7 (upd (rtOf x r i) (eid (wAdd c 1#32) 3#32) (mats m c 7) (accs (rtOf x r i) (ids c) (mats m c) 6)) rfl) $$ Ha
  iapply (part15 m K c _ _) $$ HR HL HO Hu5 Hu8 Hu11
  iintro HO Hz5 Hz8 Hz11 Hp; dsimp only
  iapply (part16 m K c _ _) $$ HR HL HO Hu14 Hp HT2 HF2 Ht7 Ht10
  iintro HO Hz14 Hu6 Hu12 HpR HqR; dsimp only
  ihave HpR := (carve_pc1 _ _ _ _) $$ HpR
  icases HpR with ⟨Hs0, Hs1⟩
  ihave HqR := (carve_pc1 _ _ _ _) $$ HqR
  icases HqR with ⟨Hs2, Hs3⟩
  iapply (part17 m K c ) $$ HR HL HO
  iintro HO; dsimp only
  ihave Hw0 := (holds_any c wk0 _) $$ Hw0
  ihave Hw1 := (holds_any c wk1 _) $$ Hw1
  iapply (part18 m K c (rtOf x r i) _ _) $$ HR HL HO Hs0 Hs1 Hw0 Hw1 Hv16 Hv17
  iintro HO Hw0 Hv16 Hf1; dsimp only
  iapply (part19 m K c (rtOf x r i) _ _ _ _ _ _) $$ HR HL HO Hw0 Hv16 Hf1 Hs2 Ha
  iintro HO Ha Hf0 Hw1 Hv17; dsimp only
  ihave Ha := (fold m c (rtOf x r i) 8 (upd (rtOf x r i) (eid (wSub c 2#32) 0#32) (mats m c 8) (accs (rtOf x r i) (ids c) (mats m c) 7)) rfl) $$ Ha
  iapply (part20 m K c (rtOf x r i) _ _ _ _ _ _) $$ HR HL HO Hw1 Hv17 Hf0 Hs3 Ha
  iintro HO Ha Hf1 Hw0 Hv16; dsimp only
  ihave Ha := (fold m c (rtOf x r i) 9 (upd (rtOf x r i) (eid (wSub c 2#32) 1#32) (mats m c 9) (accs (rtOf x r i) (ids c) (mats m c) 8)) rfl) $$ Ha
  iapply (part21 m K c (rtOf x r i) _ _ _ _ _) $$ HR HL HO Hw0 Hf1 Ha
  iintro HO Ha Hw0 Hw1 Hv17; dsimp only
  ihave Ha := (fold m c (rtOf x r i) 10 (upd (rtOf x r i) (eid (wAdd c 2#32) 2#32) (mats m c 10) (accs (rtOf x r i) (ids c) (mats m c) 9)) rfl) $$ Ha
  iapply (part22 m K c (rtOf x r i) _ (wAdd c 2#32) _ _) $$ HR HL HO Hw1 Ha Hu6 Hu9
  iintro HO Ha Hw1 Hz6 Hz9 Hp; dsimp only
  ihave Ha := (fold m c (rtOf x r i) 11 (upd (rtOf x r i) (eid (wAdd c 2#32) 3#32) (mats m c 11) (accs (rtOf x r i) (ids c) (mats m c) 10)) rfl) $$ Ha
  iapply (part23 m K c _) $$ HR HL HO Hu12 Hu15
  iintro HO Hz12 Hz15 Hq; dsimp only
  ihave Hp := (carve_pc2 _ _ _ _) $$ Hp
  icases Hp with ⟨Hs0, Hs1⟩
  ihave Hq := (carve_pc2 _ _ _ _) $$ Hq
  icases Hq with ⟨Hs2, Hs3⟩
  iapply (part24 m K c ) $$ HR HL HO
  iintro HO; dsimp only
  ihave Hw0 := (holds_any c wk0 _) $$ Hw0
  ihave Hw1 := (holds_any c wk1 _) $$ Hw1
  iapply (part25 m K c (rtOf x r i) _ _ _) $$ HR HL HO Hs0 Hs1 Hw0 Hw1 Hv16 Hv17 Ha
  iintro HO Ha Hw0 Hv16 Hf1; dsimp only
  iapply (part26 m K c (rtOf x r i) _ _ _ _ _) $$ HR HL HO Ha Hs2 Hw0 Hv16 Hf1
  iintro HO Ha Hf0 Hw1 Hv17; dsimp only
  ihave Ha := (fold m c (rtOf x r i) 12 (upd (rtOf x r i) (eid (wSub c 3#32) 0#32) (mats m c 12) (accs (rtOf x r i) (ids c) (mats m c) 11)) rfl) $$ Ha
  iapply (part27 m K c (rtOf x r i) _ (wAdd c 3#32) _ _ _ _) $$ HR HL HO Ha Hs3 Hw1 Hv17 Hf0
  iintro HO Ha Hf1 Hw0 Hv16; dsimp only
  ihave Ha := (fold m c (rtOf x r i) 13 (upd (rtOf x r i) (eid (wSub c 3#32) 1#32) (mats m c 13) (accs (rtOf x r i) (ids c) (mats m c) 12)) rfl) $$ Ha
  simp only [Prog.lift, Prog.bind_op, Prog.bind_ret, Prog.pure_eq_ret, Prog.bind_assoc]
  iapply (wp_ldAcc c _) $$ Ha; iintro Ha
  iapply (wp_ldAcc c _) $$ Ha; iintro Ha
  iapply (wp_stAcc c _ _ (accs (rtOf x r i) (ids c) (mats m c) 14) rfl rfl) $$ Ha; iintro Ha
  iapply (wp_done c d17 wk1 _ [] (lowNil) (credW _)) $$ Hf1 HO HL
  iintro Hw1 Hv17 HO
  iapply (wp_slot1 c _) $$ Hw1; iintro Hw1
  iapply (wp_ldAcc c _) $$ Ha; iintro Ha
  iapply (wp_ldAcc c _) $$ Ha; iintro Ha
  iapply (wp_stAcc c _ _ (accs (rtOf x r i) (ids c) (mats m c) 15) rfl rfl) $$ Ha; iintro Ha
  rw [wp_ret]; imodintro
  iapply Hk $$ [Hz Hz4 Hz5 Hz6 Hz7 Hz8 Hz9 Hz10 Hz11 Hz12 Hz13 Hz14 Hz15 Hv16 Hv17] HO Hx Hr Hi Ha Hkeep [Hw0 Hw1]
  · unfold rests
    isplitl [Hz]; · iexact Hz
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hv16]; · iexact Hv16
    iexact Hv17
  · iapply (unslots c _ _)
    isplitl [Hw0] <;> iassumption

end Cert.KernelIdeal.Moe

end
-- ==== Proof.Region.lean ====
/-
# What a device brings to its region and leaves of it
-/
module

public import proofs.«01_k».proof.Proof.Body

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks and the result -/

/-- The rows, the router and the expert indices, as staged. -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg1))
def istg (c : Dev nD) : (cc0_stg2_0 : Ref sig .tc).ty.Contents (Elt F) :=
  (win0_2.blk (0 : Fin 1)).view.read (Elt F) (m ((c : Thread nD τ).loc main_arg2))

/-- What the body leaves in the result's staging buffer: the sixteen terms, added in the order they come round. -/
def outAt (c : Dev nD) : (cc0_stg3_0 : Ref sig .tc).ty.Contents (Elt F) :=
  accs (rtOf (xstg m c) (rstg m c) (istg m c)) (ids c) (mats m c) 15

/-- What device `c` brings to the region besides its staged blocks. -/
def start (c : Dev nD) : sProp 𝕄 :=
  iprop((∃ K, records m K) ∗ levAts L lv ∗ toks c ∗ semVal (dCell c d16) 0 ∗ semVal (dCell c d17) 0
    ∗ ((c : Thread nD τ).loc main_arg3 ↦{fullShare} ewC m c)
    ∗ ((c : Thread nD τ).loc main_v1_1 ↦{fullShare} m ((c : Thread nD τ).loc main_v1_1))
    ∗ ((c : Thread nD τ).loc main_v1_2 ↦{fullShare} m ((c : Thread nD τ).loc main_v1_2)))

def workAny (c : Dev nD) : sProp 𝕄 :=
  iprop(∃ f : Buf (Elt F) ((c : Thread nD τ).loc cc0_scratch0), (c : Thread nD τ).loc cc0_scratch0 ↦{fullShare} f)

def Φ₀ (c : Dev nD) : sProp 𝕄 := iprop(start m c ∗ workAny c)
def Φ₁ (c : Dev nD) : sProp 𝕄 :=
  iprop(rests c ∗ ((c : Thread nD τ).loc main_arg3 ↦{fullShare.right.right} ewC m c) ∗ workAny c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => istg m c
    | ⟨3, _⟩ => outAt m c
  Φ t := match t with
    | ⟨0, _⟩ => Φ₀ m c
    | ⟨_ + 1, _⟩ => Φ₁ m c
  q _ := fullShare
  owed t := match t with
    | ⟨0, _⟩ => owed (debts c)
    | ⟨_ + 1, _⟩ => 0

theorem cfg0_N : cfg0.N = 1 := by decide
def t₀ : Fin cfg0.N := ⟨0, by rw [cfg0_N]; exact Nat.one_pos⟩
theorem fin_N (t : Fin cfg0.N) : t = t₀ := by
  obtain ⟨t, ht⟩ := t; have := cfg0_N; simp only [t₀, Fin.mk.injEq]; omega

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ
theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : b.ty.Contents (Elt F)) :
    (((c : Thread nD τ).loc b) ↦{fullShare} X : sProp 𝕄) ⊢ stg c b X := by
  iintro H; iexists X; isplitr
  · ipureintro; rfl
  iexact H

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m c) ∗ stg c cc0_stg1_0 (rstg m c)
    ∗ stg c cc0_stg2_0 (istg m c) ∗ stg c cc0_stg3_0 (outAt m c))

theorem owes_open (c : Dev nD) : ((dats m ρ 0 c).owesAt () t₀.castSucc : sProp 𝕄) ⊢ owesE c (debts c) := by
  unfold Dat.owesAt Pipeline.owesWithin owesE
  rw [show (dats m ρ 0 c).owed t₀.castSucc = owed (debts c) from rfl]
  iintro ⟨%W, %hW, HO⟩
  iexists W; iexact HO

theorem owes_close (c : Dev nD) : (owesE c [] : sProp 𝕄) ⊢ (dats m ρ 0 c).owesAt () t₀.succ := by
  unfold Dat.owesAt Pipeline.owesWithin owesE
  rw [show (dats m ρ 0 c).owed t₀.succ = owed [] from rfl]
  iintro ⟨%W, HO⟩
  iexists W; isplitr
  · ipureintro; exact fun _ _ => Or.inl trivial
  iexact HO

set_option maxRecDepth 4000 in
set_option maxHeartbeats 1600000 in
theorem body_pre_post (c : Dev nD) :
    bodyPre m ρ c ⊢ wp frame (wpE (defs₀ (F := F)) 𝒱₀ (c : Thread nD τ) none) Set.univ (cc0_body (F := F) xM (Memref.isWhole_whole _) rM (Memref.isWhole_whole _) iM (Memref.isWhole_whole _) eM (Memref.isWhole_whole _) oM (Memref.isWhole_whole _) cwM (Memref.isWhole_whole _) ccM (Memref.isWhole_whole _) wM (Memref.isWhole_whole _) cc0_scratch1 cc0_scratch2 cc0_scratch3 cc0_scratch4 cc0_scratch5)
      (fun _ => bodyPost m ρ c) := by
  unfold bodyPre Φ₀ start
  iintro ⟨⟨⟨⟨%K, #HR⟩, #HL, Htk, Hv16, Hv17, He, Hcw, Hcc⟩, Hwk⟩, HO, ⟨%dx, %gx, %hx, Hx⟩, ⟨%dr, %gr, %hr, Hr⟩, ⟨%di, %gi, %hi, Hi⟩, ⟨%do', %go, %ho, Ho⟩⟩
  have ex : gx = xstg m c := by rw [hx]; unfold Dat.before; rw [if_pos (fetch_0 t₀)]; rfl
  have er : gr = rstg m c := by rw [hr]; unfold Dat.before; rw [if_pos (fetch_1 t₀)]; rfl
  have ei : gi = istg m c := by rw [hi]; unfold Dat.before; rw [if_pos (fetch_2 t₀)]; rfl
  subst ex er ei
  ihave HO := (owes_open m ρ c) $$ HO
  unfold workAny
  icases Hwk with ⟨%fs, Hwk⟩
  ihave Hx := (Entails.of_eq (show ((c : Thread nD τ).loc cc0_stg0_0 ↦{fullShare} xstg m c : sProp 𝕄) = xAt c (xstg m c) from rfl)) $$ Hx
  ihave Hr := (Entails.of_eq (show ((c : Thread nD τ).loc cc0_stg1_0 ↦{fullShare} rstg m c : sProp 𝕄) = rAt c (rstg m c) from rfl)) $$ Hr
  ihave Hi := (Entails.of_eq (show ((c : Thread nD τ).loc cc0_stg2_0 ↦{fullShare} istg m c : sProp 𝕄) = iAt c (istg m c) from rfl)) $$ Hi
  ihave Ho := (Entails.of_eq (show ((c : Thread nD τ).loc cc0_stg3_0 ↦{fullShare} go : sProp 𝕄) = acc c go from rfl)) $$ Ho
  iapply (sound_body m K c (xstg m c) (rstg m c) (istg m c) go _ _ fs (fun _ => bodyPost m ρ c)) $$ HR HL Htk HO Hx Hr Hi Ho He Hcw Hcc Hwk Hv16 Hv17
  iintro Hrs HO Hx Hr Hi Ha He Hwk
  unfold bodyPost Φ₁ workAny
  isplitl [Hrs He Hwk]
  · isplitl [Hrs]; · iexact Hrs
    isplitl [He]; · iexact He
    iexact Hwk
  isplitl [HO]; · iapply (owes_close m ρ c); iexact HO
  isplitl [Hx]; · iapply (show xAt c (xstg m c) ⊢ (stg c cc0_stg0_0 (xstg m c) : sProp 𝕄) from stg_intro c cc0_stg0_0 (xstg m c)); iexact Hx
  isplitl [Hr]; · iapply (show rAt c (rstg m c) ⊢ (stg c cc0_stg1_0 (rstg m c) : sProp 𝕄) from stg_intro c cc0_stg1_0 (rstg m c)); iexact Hr
  isplitl [Hi]; · iapply (show iAt c (istg m c) ⊢ (stg c cc0_stg2_0 (istg m c) : sProp 𝕄) from stg_intro c cc0_stg2_0 (istg m c)); iexact Hi
  iapply (show acc c (outAt m c) ⊢ (stg c cc0_stg3_0 (outAt m c) : sProp 𝕄) from stg_intro c cc0_stg3_0 (outAt m c)); unfold outAt; iexact Ha

set_option maxRecDepth 20000 in
/-- The library's obligation on the body, at device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_pre_post m ρ c

end Cert.KernelIdeal.Moe

end
-- ==== Proof.Setup.lean ====
/-
# The launch: the cells, their duties and the first ghost state
-/
module

public import proofs.«01_k».proof.Proof.Region

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: its fourteen DMA semaphores. -/
abbrev osem : Fin 14 → SemLoc sig := fun k => .dma ⟨k.val + 4, by have := k.isLt; show k.val + 4 < 18; omega⟩
theorem ownSemFacts : Pipeline.OwnSemFacts cfg0.spec osem := by decide
theorem share_eq (c : Dev nD) (w : Fin cfg0.W) : (dats m ρ 0 c).share w = fullShare := by unfold Dat.share; split <;> rfl

/-! ## The ghost state at launch -/

theorem ksem_injective : Function.Injective ksem := by
  have h : ∀ k k' : Fin 13, ksem k = ksem k' → k = k' := by decide
  exact fun k k' e => h k k' e
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := ksem_injective (congrArg Prod.snd h)
  rw [h1, h2]
def ringCells : Finset (GSem nD τ sig) := Finset.univ.map ⟨kcell, kcell_injective⟩

/-- The duties of one device's cells: two at the barrier, one at each of the twelve others. -/
def duty (j : Fin 14) : Fin 13 × Bool := ![(0, false), (0, true), (1, false), (2, false), (3, false), (4, false), (5, false), (6, false),
  (7, false), (8, false), (9, false), (10, false), (11, false), (12, false)] j
theorem duty_injective : Function.Injective duty := by
  have h : ∀ k k' : Fin 14, duty k = duty k' → k = k' := by decide
  exact fun k k' e => h k k' e
def tokOf (cj : Dev nD × Fin 14) : GSem nD τ sig × ℕ × Bool := (kcell (cj.1, (duty cj.2).1), 0, (duty cj.2).2)
theorem tokOf_injective : Function.Injective (tokOf : Dev nD × Fin 14 → GSem nD τ sig × ℕ × Bool) := by
  rintro ⟨c, j⟩ ⟨c', j'⟩ h
  have h1 := kcell_injective (congrArg Prod.fst h)
  have h2 : (duty j).2 = (duty j').2 := congrArg (fun x => x.2.2) h
  have h3 : c = c' := congrArg Prod.fst h1
  have h4 : j = j' := duty_injective (Prod.ext (congrArg Prod.snd h1) h2)
  rw [h3, h4]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks0 (c : Dev nD) : sProp 𝕄 :=
  iprop(dutyTok ER (barCell c) 0 false ∗ dutyTok ER (barCell c) 0 true
    ∗ dutyTok ER (dCell c d4) 0 false ∗ dutyTok ER (dCell c d5) 0 false ∗ dutyTok ER (dCell c d6) 0 false
    ∗ dutyTok ER (dCell c d7) 0 false ∗ dutyTok ER (dCell c d8) 0 false ∗ dutyTok ER (dCell c d9) 0 false
    ∗ dutyTok ER (dCell c d10) 0 false ∗ dutyTok ER (dCell c d11) 0 false ∗ dutyTok ER (dCell c d12) 0 false
    ∗ dutyTok ER (dCell c d13) 0 false ∗ dutyTok ER (dCell c d14) 0 false ∗ dutyTok ER (dCell c d15) 0 false)

/-- The duties device `c` pays: its neighbours' barriers, its own sends, its neighbours' receives. -/
def payToks (c : Dev nD) : sProp 𝕄 :=
  iprop(dutyTok ER (barCell (nxt c)) 0 false ∗ dutyTok ER (barCell (prv c)) 0 true
    ∗ dutyTok ER (dCell c d4) 0 false ∗ dutyTok ER (dCell c d5) 0 false ∗ dutyTok ER (dCell c d6) 0 false
    ∗ dutyTok ER (dCell (nxt c) d7) 0 false ∗ dutyTok ER (dCell (nxt c) d8) 0 false ∗ dutyTok ER (dCell (nxt c) d9) 0 false
    ∗ dutyTok ER (dCell c d10) 0 false ∗ dutyTok ER (dCell c d11) 0 false ∗ dutyTok ER (dCell c d12) 0 false
    ∗ dutyTok ER (dCell (prv c) d13) 0 false ∗ dutyTok ER (dCell (prv c) d14) 0 false ∗ dutyTok ER (dCell (prv c) d15) 0 false)

def places (c : Dev nD) : sProp 𝕄 := bigSep Finset.univ fun k : Fin 13 => atPos ER (kcell (c, k)) 0 ∅ 0

/-- What the launch element deals device `c`. -/
def G (c : Dev nD) : sProp 𝕄 :=
  iprop((bigSep Finset.univ fun k : Fin 13 => roundState ER (sched m) (kcell (c, k)) 0)
    ∗ (bigSep Finset.univ fun k : Fin 13 => iprop(atPos ER (kcell (c, k)) 0 ∅ 0 ∗ reached ER (kcell (c, k)) 0)) ∗ toks0 c)

def linear (c : Dev nD) : sProp 𝕄 :=
  iprop((places c ∗ payToks c) ∗ semVal (dCell c d16) 0 ∗ semVal (dCell c d17) 0)

/-- What the step over all devices makes of it. -/
def G' (c : Dev nD) : sProp 𝕄 := iprop((∃ K, records m K) ∗ linear c)

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks0 c := by
    unfold ringToks; rw [bigSep_map, bigSep_univ_prod]
    exact bigSep_congr fun c _ => by unfold toks0; rw [bigSep_fin14]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop(semVal (dCell c d4) 0 ∗ semVal (dCell c d5) 0 ∗ semVal (dCell c d6) 0 ∗ semVal (dCell c d7) 0 ∗ semVal (dCell c d8) 0
      ∗ semVal (dCell c d9) 0 ∗ semVal (dCell c d10) 0 ∗ semVal (dCell c d11) 0 ∗ semVal (dCell c d12) 0 ∗ semVal (dCell c d13) 0
      ∗ semVal (dCell c d14) 0 ∗ semVal (dCell c d15) 0 ∗ semVal (dCell c d16) 0 ∗ semVal (dCell c d17) 0) := by
  rw [Pipeline.ownSems0_eq_of_list c osem [0, 1, 2, 3, 4, 5, 6, 7, 8, 9, 10, 11, 12, 13] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem cells13 (c : Dev nD) : (bigSep Finset.univ fun k : Fin 13 => semVal (kcell (c, k)) 0 : sProp 𝕄)
    = iprop(semVal (barCell c) 0 ∗ semVal (dCell c d4) 0 ∗ semVal (dCell c d5) 0 ∗ semVal (dCell c d6) 0 ∗ semVal (dCell c d7) 0 ∗ semVal (dCell c d8) 0
      ∗ semVal (dCell c d9) 0 ∗ semVal (dCell c d10) 0 ∗ semVal (dCell c d11) 0 ∗ semVal (dCell c d12) 0 ∗ semVal (dCell c d13) 0
      ∗ semVal (dCell c d14) 0 ∗ semVal (dCell c d15) 0) := by rw [bigSep_fin13]; rfl
omit [FloatOps F] in
theorem places_eq (c : Dev nD) : (places c : sProp 𝕄)
    = iprop(atPos ER (barCell c) 0 ∅ 0 ∗ atPos ER (dCell c d4) 0 ∅ 0 ∗ atPos ER (dCell c d5) 0 ∅ 0 ∗ atPos ER (dCell c d6) 0 ∅ 0 ∗ atPos ER (dCell c d7) 0 ∅ 0 ∗ atPos ER (dCell c d8) 0 ∅ 0
      ∗ atPos ER (dCell c d9) 0 ∅ 0 ∗ atPos ER (dCell c d10) 0 ∅ 0 ∗ atPos ER (dCell c d11) 0 ∅ 0 ∗ atPos ER (dCell c d12) 0 ∅ 0 ∗ atPos ER (dCell c d13) 0 ∅ 0
      ∗ atPos ER (dCell c d14) 0 ∅ 0 ∗ atPos ER (dCell c d15) 0 ∅ 0) := by unfold places; rw [bigSep_fin13]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ semVal (dCell c d16) 0 ∗ semVal (dCell c d17) 0) : sProp 𝕄) := by
  rw [ownSems0_eq, unscopedSems0_eq, cells13]
  iintro ⟨⟨H4, H5, H6, H7, H8, H9, H10, H11, H12, H13, H14, H15, H16, H17⟩, HB⟩
  isplitr [H16 H17]
  · isplitl [HB]; · iexact HB
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14] <;> iassumption
  isplitl [H16] <;> iassumption

omit [FloatOps F] in
/-- Device `c`'s cells put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks0 c
          ∗ semVal (dCell c d16) 0 ∗ semVal (dCell c d17) 0) := by
  unfold G
  iintro ⟨Hos, Hus, Hst, Hat, Htok⟩
  ihave Hv := (sems0 (F := F) c) $$ [Hos Hus]
  · isplitl [Hos] <;> iassumption
  icases Hv with ⟨Hv, H16, H17⟩
  imod (show iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [H16] <;> iassumption

omit [FloatOps F] in
/-- Every duty's token goes to the device that pays it. -/
theorem toks_around : (bigSep Finset.univ fun c : Dev nD => (toks0 c : sProp 𝕄)) ⊢ bigSep Finset.univ fun c : Dev nD => payToks c := by
  unfold toks0 payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dCell c d7) 0 false : sProp 𝕄)),
    bigSep_univ_equiv ring (fun c : Dev nD => (dutyTok ER (dCell c d8) 0 false : sProp 𝕄)),
    bigSep_univ_equiv ring (fun c : Dev nD => (dutyTok ER (dCell c d9) 0 false : sProp 𝕄)),
    bigSep_univ_equiv ring.symm (fun c : Dev nD => (dutyTok ER (dCell c d13) 0 false : sProp 𝕄)),
    bigSep_univ_equiv ring.symm (fun c : Dev nD => (dutyTok ER (dCell c d14) 0 false : sProp 𝕄)),
    bigSep_univ_equiv ring.symm (fun c : Dev nD => (dutyTok ER (dCell c d15) 0 false : sProp 𝕄))]
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem G'_intro (K : Dev nD × Fin 13 → ℕ) (c : Dev nD) : iprop(records m K ∗ linear c) ⊢ G' m c := by
  unfold G'
  iintro ⟨#HR, Hl⟩
  isplitr
  · iexists K; iexact HR
  iexact Hl

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks0 c
          ∗ semVal (dCell c d16) 0 ∗ semVal (dCell c d17) 0) : sProp 𝕄)
      ⊢ bigSep Finset.univ (G' m) := by
  rw [bigSep_sep', bigSep_sep', bigSep_sep', ← bigSep_univ_prod (fun ck : Dev nD × Fin 13 => iprop(∃ κ : ℕ, cellInv ER (sched m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hv⟩
  ihave HK := (BI.bigSep_exists_pi Finset.univ (fun (ck : Dev nD × Fin 13) (κ : ℕ) => (cellInv ER (sched m) κ (kcell ck) : sProp 𝕄))) $$ HI
  icases HK with ⟨%K, #HI⟩
  ihave Htk := (toks_around (F := F)) $$ Htok
  iapply (bigSep_with (R := records m K) fun c _ => G'_intro m K c)
  isplitr
  · unfold records; isplitl; · iexact HI
    iexact HR
  · have e : (bigSep Finset.univ fun c : Dev nD => (linear c : sProp 𝕄))
        = iprop(((bigSep Finset.univ fun c : Dev nD => places c) ∗ bigSep Finset.univ fun c : Dev nD => payToks c)
          ∗ bigSep Finset.univ fun c : Dev nD => iprop(semVal (dCell c d16) 0 ∗ semVal (dCell c d17) 0)) := by
      unfold linear; rw [bigSep_sep', bigSep_sep']
    iapply (Entails.of_eq e.symm)
    isplitr [Hv]
    · isplitl [Hat]
      · unfold places; iexact Hat
      iexact Htk
    iexact Hv

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Moe

end
-- ==== Proof.Launch.lean ====
/-
# The launch: credits, side conditions and the run
-/
module

public import proofs.«01_k».proof.Proof.Setup
public import Idealize.ShloMosaic.Lib.Pipeline.CollectiveSegs
public import Idealize.ShloMosaic.Lib.Quiescent

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev O₀ (c : Dev nD) : CellTallies nD τ sig Unit := owed (debts c)

/-! ## The credits dealt at launch -/

omit [FloatOps F] in
theorem bar_iff {a b : Dev nD} : barCell a = barCell b ↔ a = b :=
  ⟨fun h => congrArg (fun g : GSem nD τ sig => g.1.1) h, fun h => h ▸ rfl⟩
omit [FloatOps F] in
theorem dcell_iff {a b : Dev nD} {q q' : DmaSem sig} : dCell a q = dCell b q' ↔ a = b ∧ q = q' := by
  constructor
  · intro h
    refine ⟨congrArg (fun g : GSem nD τ sig => g.1.1) h, ?_⟩
    have := congrArg Prod.snd h
    exact SemLoc.dma.inj this
  · rintro ⟨rfl, rfl⟩; rfl
omit [FloatOps F] in
theorem bar_ne (a b : Dev nD) (q : DmaSem sig) : ¬ barCell a = dCell b q := fun h => by cases congrArg Prod.snd h
omit [FloatOps F] in
theorem ne_bar (a b : Dev nD) (q : DmaSem sig) : ¬ dCell a q = barCell b := fun h => by cases congrArg Prod.snd h
omit [FloatOps F] in
theorem eq_nxt (c d : Dev nD) : c = nxt d ↔ d = prv c := ⟨fun h => by rw [h, prv_nxt], fun h => by rw [h, nxt_prv]⟩
omit [FloatOps F] in
theorem eq_prv (c d : Dev nD) : c = prv d ↔ d = nxt c := ⟨fun h => by rw [h, nxt_prv], fun h => by rw [h, prv_nxt]⟩

omit [FloatOps F] in
/-- What device `d` owes a cell. -/
theorem O₀_apply (d : Dev nD) (g : GSem nD τ sig) : O₀ d g () =
    (if g = dCell (prv d) d15 then N else 0) + (if g = dCell (nxt d) d9 then N else 0) + (if g = dCell (prv d) d14 then N else 0)
      + (if g = dCell (nxt d) d8 then N else 0) + (if g = dCell (prv d) d13 then N else 0) + (if g = dCell (nxt d) d7 then N else 0)
      + (if g = barCell (nxt d) then 1 else 0) + (if g = barCell (prv d) then 1 else 0) := by
  simp only [O₀, owed, debts, sends0, sends1, sends2, Pi.add_apply, Finsupp.add_apply, tallyAt_apply, and_true, Pi.zero_apply, Finsupp.zero_apply, Nat.zero_add]

omit [FloatOps F] in
theorem O₀_bar (d c : Dev nD) : O₀ d (barCell c) () = (if d = prv c then 1 else 0) + (if d = nxt c then 1 else 0) := by
  rw [O₀_apply]; simp only [bar_ne, if_false, bar_iff, eq_nxt c d, eq_prv c d, Nat.zero_add]

omit [FloatOps F] in
theorem O₀_nxt (d c : Dev nD) (q : DmaSem sig) (h : q = d7 ∨ q = d8 ∨ q = d9) : O₀ d (dCell c q) () = if d = prv c then N else 0 := by
  rw [O₀_apply]; simp only [ne_bar, if_false, dcell_iff, eq_nxt c d, eq_prv c d, Nat.add_zero]
  have e (x y : DmaSem sig) (hx : x ≠ y) (p : Prop) : ¬ (p ∧ x = y) := fun h => hx h.2
  rcases h with rfl | rfl | rfl
  · rw [if_neg (e _ _ (by decide) _), if_neg (e _ _ (by decide) _), if_neg (e _ _ (by decide) _), if_neg (e _ _ (by decide) _), if_neg (e _ _ (by decide) _)]
    simp only [and_true, Nat.zero_add]
  · rw [if_neg (e _ _ (by decide) _), if_neg (e _ _ (by decide) _), if_neg (e _ _ (by decide) _), if_neg (e d8 d13 (by decide) _), if_neg (e d8 d7 (by decide) _)]
    simp only [and_true, Nat.zero_add, Nat.add_zero]
  · rw [if_neg (e _ _ (by decide) _), if_neg (e d9 d14 (by decide) _), if_neg (e d9 d8 (by decide) _), if_neg (e d9 d13 (by decide) _), if_neg (e d9 d7 (by decide) _)]
    simp only [and_true, Nat.zero_add, Nat.add_zero]

omit [FloatOps F] in
theorem O₀_prv (d c : Dev nD) (q : DmaSem sig) (h : q = d13 ∨ q = d14 ∨ q = d15) : O₀ d (dCell c q) () = if d = nxt c then N else 0 := by
  rw [O₀_apply]; simp only [ne_bar, if_false, dcell_iff, eq_nxt c d, eq_prv c d, Nat.add_zero]
  have e (x y : DmaSem sig) (hx : x ≠ y) (p : Prop) : ¬ (p ∧ x = y) := fun h => hx h.2
  rcases h with rfl | rfl | rfl
  · rw [if_neg (e d13 d15 (by decide) _), if_neg (e d13 d9 (by decide) _), if_neg (e d13 d14 (by decide) _), if_neg (e d13 d8 (by decide) _), if_neg (e d13 d7 (by decide) _)]
    simp only [and_true, Nat.zero_add, Nat.add_zero]
  · rw [if_neg (e d14 d15 (by decide) _), if_neg (e d14 d9 (by decide) _), if_neg (e d14 d8 (by decide) _), if_neg (e d14 d13 (by decide) _), if_neg (e d14 d7 (by decide) _)]
    simp only [and_true, Nat.zero_add, Nat.add_zero]
  · rw [if_neg (e d15 d9 (by decide) _), if_neg (e d15 d14 (by decide) _), if_neg (e d15 d8 (by decide) _), if_neg (e d15 d13 (by decide) _), if_neg (e d15 d7 (by decide) _)]
    simp only [and_true, Nat.zero_add, Nat.add_zero]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (prv c) fun _ => 1, Finset.sum_ite_eq' Finset.univ (nxt c) fun _ => 1, if_pos (Finset.mem_univ _), if_pos (Finset.mem_univ _)]
omit [FloatOps F] in
theorem launch_nxt (c : Dev nD) (q : DmaSem sig) (h : q = d7 ∨ q = d8 ∨ q = d9) :
    tallyOn (dCell c q) (launchCredit (Pipeline.owing O₀) 0 (dCell c q)) = (tallyAt (dCell c q) () N : CellTallies nD τ sig Unit) := by
  unfold tallyAt; refine congrArg _ (Finsupp.ext fun u => ?_); cases u
  rw [Pipeline.launchCredit_owing, Finsupp.single_eq_same, Finset.sum_congr rfl fun d _ => O₀_nxt d c q h, Finset.sum_ite_eq' Finset.univ (prv c) fun _ => N,
    if_pos (Finset.mem_univ _)]
omit [FloatOps F] in
theorem launch_prv (c : Dev nD) (q : DmaSem sig) (h : q = d13 ∨ q = d14 ∨ q = d15) :
    tallyOn (dCell c q) (launchCredit (Pipeline.owing O₀) 0 (dCell c q)) = (tallyAt (dCell c q) () N : CellTallies nD τ sig Unit) := by
  unfold tallyAt; refine congrArg _ (Finsupp.ext fun u => ?_); cases u
  rw [Pipeline.launchCredit_owing, Finsupp.single_eq_same, Finset.sum_congr rfl fun d _ => O₀_prv d c q h, Finset.sum_ite_eq' Finset.univ (nxt c) fun _ => N,
    if_pos (Finset.mem_univ _)]

def credits (c : Dev nD) : sProp 𝕄 :=
  iprop(cred (tallyAt (barCell c) () 2) ∗ cred (tallyAt (dCell c d7) () N) ∗ cred (tallyAt (dCell c d8) () N) ∗ cred (tallyAt (dCell c d9) () N)
    ∗ cred (tallyAt (dCell c d13) () N) ∗ cred (tallyAt (dCell c d14) () N) ∗ cred (tallyAt (dCell c d15) () N))

omit [FloatOps F] in
theorem credits_intro (c : Dev nD) : (Pipeline.launchCred O₀ c : sProp 𝕄) ⊢ credits c := by
  unfold Pipeline.launchCred credits
  rw [bigSep_univ_at _ (SemLoc.reg barS), launch_bar]
  refine sep_mono_right ?_
  rw [bigSep_erase (i := SemLoc.dma d7) (Finset.mem_erase.mpr ⟨by decide, Finset.mem_univ _⟩), launch_nxt c d7 (.inl rfl)]
  refine sep_mono_right ?_
  rw [bigSep_erase (i := SemLoc.dma d8) (by decide), launch_nxt c d8 (.inr (.inl rfl))]
  refine sep_mono_right ?_
  rw [bigSep_erase (i := SemLoc.dma d9) (by decide), launch_nxt c d9 (.inr (.inr rfl))]
  refine sep_mono_right ?_
  rw [bigSep_erase (i := SemLoc.dma d13) (by decide), launch_prv c d13 (.inl rfl)]
  refine sep_mono_right ?_
  rw [bigSep_erase (i := SemLoc.dma d14) (by decide), launch_prv c d14 (.inr (.inl rfl))]
  refine sep_mono_right ?_
  rw [← launch_prv c d15 (.inr (.inr rfl))]
  exact bigSep_elim (i := SemLoc.dma d15) (by decide)

/-! ## The launch theorem's side conditions -/

omit [FloatOps F] in
theorem toks_intro (c : Dev nD) : iprop((places c ∗ payToks c) ∗ credits c) ⊢ (toks c : sProp 𝕄) := by
  rw [places_eq]; unfold payToks credits toks ticket due
  iintro ⟨⟨⟨AB, A4, A5, A6, A7, A8, A9, A10, A11, A12, A13, A14, A15⟩, TF, TT, T4, T5, T6, T7, T8, T9, T10, T11, T12, T13, T14, T15⟩,
    CB, C7, C8, C9, C13, C14, C15⟩
  isplitl [TT]; · iexact TT
  isplitl [TF]; · iexact TF
  isplitl [CB]; · iexact CB
  isplitl [AB]; · iexact AB
  isplitl [T4 T7 A4]
  · isplitl [T4]; · iexact T4
    isplitl [T7] <;> iassumption
  isplitl [T5 T8 A5]
  · isplitl [T5]; · iexact T5
    isplitl [T8] <;> iassumption
  isplitl [T6 T9 A6]
  · isplitl [T6]; · iexact T6
    isplitl [T9] <;> iassumption
  isplitl [T10 T13 A10]
  · isplitl [T10]; · iexact T10
    isplitl [T13] <;> iassumption
  isplitl [T11 T14 A11]
  · isplitl [T11]; · iexact T11
    isplitl [T14] <;> iassumption
  isplitl [T12 T15 A12]
  · isplitl [T12]; · iexact T12
    isplitl [T15] <;> iassumption
  isplitl [C7 A7]
  · isplitl [C7] <;> iassumption
  isplitl [C8 A8]
  · isplitl [C8] <;> iassumption
  isplitl [C9 A9]
  · isplitl [C9] <;> iassumption
  isplitl [C13 A13]
  · isplitl [C13] <;> iassumption
  isplitl [C14 A14]
  · isplitl [C14] <;> iassumption
  isplitl [C15] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' linear
  iintro ⟨⟨He, Hcw, Hcc⟩, Hlev, Hcr, -, HK, ⟨Hl, H16, H17⟩⟩
  ihave Hc := (credits_intro (F := F) c) $$ Hcr
  ihave Ht := (toks_intro (F := F) c) $$ [Hl Hc]
  · isplitl [Hl] <;> iassumption
  imodintro
  isplitl
  · isplitl [HK]; · iexact HK
    isplitl [Hlev]; · iexact Hlev
    isplitl [Ht]; · iexact Ht
    isplitl [H16]; · iexact H16
    isplitl [H17]; · iexact H17
    isplitl [He]; · iexact He
    isplitl [Hcw]; · iexact Hcw
    iexact Hcc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ workAny
  iintro ⟨Hs, -, Hr⟩
  isplitl [Hs] <;> iassumption

/-- What a device keeps past the region: its barrier at rest and a share of its experts' weights. -/
def kept (c : Dev nD) : sProp 𝕄 :=
  iprop(unscopedSems0 c ∗ ((c : Thread nD τ).loc main_arg3 ↦{fullShare.right.right} ewC m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq]
  unfold kept
  rw [unscopedSems0_eq]
  unfold Φ₁ rests workAny
  iintro ⟨⟨HB, Hs⟩, He, Hw⟩
  isplitl [HB He]
  · isplitl [HB] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ (debts c) 0 (by fin_cases w <;> fin_cases s <;> exact Nat.le_of_ble_eq_true rfl) (by
        intro p hp
        fin_cases hp <;> exact ⟨rfl, Nat.le_of_ble_eq_true rfl⟩)
    · exact mayWait_of c _ [] 0 (by fin_cases w <;> fin_cases s <;> exact Nat.le_of_ble_eq_true rfl) (fun p hp => absurd hp List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3)

theorem kept_read (c : Dev nD) (s' : Phys nD τ sig (Elt F)) :
    iprop(kept m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg3) = m ((c : Thread nD τ).loc main_arg3)⌝ ∗ SI s') : sProp 𝕄) := by
  unfold kept
  iintro ⟨⟨Hu, He⟩, -, HSI⟩
  icombine HSI He gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, Buf.eq_of_forall_mem_univ h⟩
  iexact HSI

set_option maxRecDepth 8000 in
/-- On four devices, at any float values, from any memory with every counter at zero: every weakly fair execution ends,
with the windows' arrays at the contents named above, the experts' weights as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3))
    (hY := kept_read m)
    (hQ := fun _ h hs => ⟨fun c => ⟨fun w => (h c).1 w, (h c).2.2.2⟩, sem_eq_zero hs fun c => (h c).2.2.1⟩)

theorem finalA_in0 (c : Dev nD) : finalA m ρ c (0 : Fin 4) = m ((c : Thread nD τ).loc main_arg0) := (dats (F := F) m ρ 0 c).arrAt_in (0 : Fin 4) rfl _
theorem finalA_in1 (c : Dev nD) : finalA m ρ c (1 : Fin 4) = m ((c : Thread nD τ).loc main_arg1) := (dats (F := F) m ρ 0 c).arrAt_in (1 : Fin 4) rfl _
theorem finalA_in2 (c : Dev nD) : finalA m ρ c (2 : Fin 4) = m ((c : Thread nD τ).loc main_arg2) := (dats (F := F) m ρ 0 c).arrAt_in (2 : Fin 4) rfl _

/-- The result array's one block — the whole array — read back is what the body left. -/
theorem finalA_out (c : Dev nD) : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- The windows' blocks are the whole arrays. -/
theorem out_whole (f : Buf (Elt F) ((0 : Dev nD).tc.loc main_v1_0 : Loc nD τ sig)) : (win0_3.blk (0 : Fin 1)).view.read (Elt F) f = f :=
  Memref.read_access_unit_zero (Elt F) main_v1_0 (funext fun a => by fin_cases a <;> decide) (fun a => by fin_cases a <;> decide) f

end Cert.KernelIdeal.Moe

end
-- ==== Proof.Frames.lean ====
/-
# The frames of the kernel, at both instances
-/
module

public import proofs.«01_k».proof.Defs
public import proofs.«01_k».proof.Proof.Gen.Kernel
public import proofs.«01_k».proof.Proof.Launch

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem frames (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (finalA_in0 m ρ c), ((h c).1 (1 : Fin 4)).trans (finalA_in1 m ρ c),
    ((h c).1 (2 : Fin 4)).trans (finalA_in2 m ρ c), (h c).2⟩

theorem frame_kernelIdeal : Cert.quiescent_KernelIdeal := fun m ρ _ =>
  (θ_run Cert.KernelIdeal.defs _ _).mono (fun r h => ⟨fun c => frames m ρ r h.1 c, h.2⟩) (run_main (F := Ideal) m ρ)

/-! The kernel and its idealisation have one text: the tables of their bodies are equal. -/

theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | n, h⟩ := l
  · obtain ⟨t, s⟩ := a
    rfl
  · exact absurd h (Nat.not_lt.2 (Nat.le_add_left _ _))
theorem defs_same : Cert.Kernel.defs (F := Bits) = Cert.KernelIdeal.defs (F := Bits) := by
  unfold Cert.Kernel.defs Cert.KernelIdeal.defs
  exact congrArg (Pipeline.defs pcfgs) defs₀_same

theorem frame_kernel : Cert.quiescent_Kernel := fun m ρ _ => by
  rw [defs_same]
  exact (θ_run (Cert.KernelIdeal.defs (F := Bits)) (onTc (τ := τ) (Cert.KernelIdeal.main (F := Bits))) (s₀ m ρ)).mono
    (Q := fun r => QC m ρ r ∧ r.2.sem = fun _ => 0)
    (fun r h => ⟨fun c => frames m ρ r h.1 c, h.2⟩) (run_main (F := Bits) m ρ)

end Cert.KernelIdeal.Moe

end
-- ==== Proof.RefFrame.lean ====
/-
# The frame of the reference
-/
module

public import proofs.«01_k».proof.Proof.Gen.ReferenceIdeal.Run
public import proofs.«01_k».proof.Defs
public import proofs.«01_k».proof.Proof.Launch

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem frame_reference : Cert.quiescent_ReferenceIdeal := fun m ρ _ =>
  (θ_run Cert.ReferenceIdeal.defs _ _).mono (fun r h => ⟨fun c => (h c).2, funext fun g => by
    obtain ⟨t, s⟩ := g
    rcases s with s | s <;> exact s.elim0⟩) (Cert.ReferenceIdeal.Value.run (F := Ideal) m ρ)

end Cert.KernelIdeal.Moe

end
-- ==== Proof.Finite.lean ====
/-
# The precondition read back

The side conditions of its two readings, and what it says.
-/
module

public import proofs.«01_k».proof.Proof.Frames
public import Idealize.ShloMosaic.Lib.ReduceAll

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

instance preFacts : Cert.Pre_finite_routing_KernelIdeal.Facts where
  bcast_S_S2048x512 := by decide
  reducesTo_S2048x512_S_d0_1 := by decide
  h_S_ := by decide
  bcast_S_S512x16 := by decide
  reducesTo_S512x16_S_d0_1 := by decide
instance preFactsRef : Cert.Pre_finite_routing_ReferenceIdeal.Facts where
  bcast_S_S8192x512 := by decide
  reducesTo_S8192x512_S_d0_1 := by decide
  h_S_ := by decide
  bcast_S_S512x16 := by decide
  reducesTo_S512x16_S_d0_1 := by decide

/-- An extended real smaller in size than the greatest is real. -/
theorem real_of_abs (x : EReal) (h : FloatOps.cmpf (F := Ideal) (φ := .f32) .olt (FloatOps.hostAbsf (F := Ideal) (φ := .f32) x) (Ideal.ofBits .f32 0x7F800000#32) = 1#1) : ∃ r : ℝ, x = r := by
  have ht : Ideal.ofBits .f32 0x7F800000#32 = ⊤ := by simp [Ideal.ofBits, Ideal.ieee]
  rw [ht] at h
  have h' : FloatOps.hostAbsf (F := Ideal) (φ := .f32) x < (⊤ : EReal) := by
    have := h
    change BitVec.ofBool (decide (_ < _)) = 1#1 at this
    by_contra hc
    rw [decide_eq_false hc] at this
    exact absurd this (by decide)
  induction x using EReal.rec with
  | bot => exact absurd h' (show ¬ max (⊥ : EReal) (-⊥) < ⊤ by simp)
  | coe r => exact ⟨r, rfl⟩
  | top => exact absurd h' (show ¬ max (⊤ : EReal) (-⊤) < ⊤ by simp)

/-- The precondition read back: the tokens and the router are real. -/
theorem finite (m : (ℓ : Loc nD τ sig) → Buf (Elt Ideal) ℓ) (h : Cert.Pre_KernelIdeal_finite_routing_KernelIdeal m) (c : Dev nD) :
    (∀ i, ∃ r : ℝ, m ((c.tc : Thread nD τ).loc main_arg0) i = (r : EReal)) ∧ ∀ i, ∃ r : ℝ, m ((c.tc : Thread nD τ).loc main_arg1) i = (r : EReal) := by
  have := congrFun (h c) (fun a => a.elim0)
  obtain ⟨h0, h1⟩ := IntOp.andi_eq_one.1 this
  haveI : Subsingleton (Cert.Pre_finite_routing_KernelIdeal.S_).Idx := ⟨fun _ _ => funext fun a => a.elim0⟩
  exact ⟨fun i => real_of_abs _ (Host.reduce_andi_all _ _ _ _ _ h0 i), fun i => real_of_abs _ (Host.reduce_andi_all _ _ _ _ _ h1 i)⟩

end Cert.KernelIdeal.Moe

end
-- ==== Proof.Math.lean ====
/-
# The mixture of experts over the extended reals

One entry of the result, and the two ways of adding it up.
-/
module

public import proofs.«01_k».proof.Proof.Ring
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Whether a slot names the expert. -/
def hit (a e : BitVec 32) : EReal := if a = e then 1 else 0
/-- The entry a slot names, nothing when it names no expert. -/
def pick (f : Fin 16 → EReal) (a : BitVec 32) : EReal := if h : a.toNat < 16 then f ⟨a.toNat, h⟩ else 0

theorem eq_ofNat (a : BitVec 32) (e : Fin 16) : a = BitVec.ofNat 32 e.val ↔ a.toNat = e.val := by
  have := e.isLt
  constructor
  · intro h; rw [h, BitVec.toNat_ofNat]; omega
  · intro h; apply BitVec.eq_of_toNat_eq; rw [BitVec.toNat_ofNat, h]; omega

theorem sum_hit (f : Fin 16 → EReal) (a : BitVec 32) : ∑ e, hit a (BitVec.ofNat 32 e.val) * f e = pick f a := by
  unfold hit pick
  split
  · rename_i h
    rw [Finset.sum_eq_single ⟨a.toNat, h⟩]
    · rw [if_pos ((eq_ofNat a _).mpr rfl), one_mul]
    · intro e _ he
      rw [if_neg fun hc => he (Fin.ext ((eq_ofNat a e).mp hc).symm), zero_mul]
    · intro hc; exact absurd (Finset.mem_univ _) hc
  · rename_i h
    refine Finset.sum_eq_zero fun e _ => ?_
    rw [if_neg fun hc => h (((eq_ofNat a e).mp hc) ▸ e.isLt), zero_mul]

/-- A real nonnegative factor comes out of a sum. -/
theorem mul_sum_real {ι : Type} (s : Finset ι) (c : ℝ) (hc : 0 ≤ c) (f : ι → EReal) : ∑ i ∈ s, (c : EReal) * f i = c * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.mpr hc) (EReal.coe_ne_top c)]

/-- What the experts of a token add up to: its two experts' products, each times its weight; nothing where a slot names none. -/
theorem combine (x : Fin 512 → EReal) (W : Fin 16 → Fin 512 → EReal) (a b : BitVec 32) (wa wb : EReal)
    (hw : (∃ u v : ℝ, 0 ≤ u ∧ 0 ≤ v ∧ wa = u ∧ wb = v) ∨ ¬ a.toNat < 16 ∧ ¬ b.toNat < 16) :
    ∑ e : Fin 16, ∑ k : Fin 512, x k * (hit a (BitVec.ofNat 32 e.val) * wa + hit b (BitVec.ofNat 32 e.val) * wb) * W e k
      = wa * pick (fun e => ∑ k, x k * W e k) a + wb * pick (fun e => ∑ k, x k * W e k) b := by
  rcases hw with ⟨u, v, hu, hv, rfl, rfl⟩ | ⟨ha, hb⟩
  · have hit_real : ∀ (a e : BitVec 32), ∃ r : ℝ, 0 ≤ r ∧ hit a e = r := fun a e => by
      unfold hit; split
      · exact ⟨1, zero_le_one, rfl⟩
      · exact ⟨0, le_rfl, rfl⟩
    have hs : ∀ (a : BitVec 32) (u : ℝ), 0 ≤ u → ∑ e : Fin 16, hit a (BitVec.ofNat 32 e.val) * u * (∑ k, x k * W e k)
        = (u : EReal) * pick (fun e => ∑ k, x k * W e k) a := fun a u hu => by
      rw [← sum_hit, ← mul_sum_real _ u hu]
      exact Finset.sum_congr rfl fun e _ => by rw [mul_comm (hit _ _) (u : EReal), mul_assoc]
    rw [← hs a u hu, ← hs b v hv, ← Finset.sum_add_distrib]
    refine Finset.sum_congr rfl fun e _ => ?_
    obtain ⟨p, hp, ep⟩ := hit_real a (BitVec.ofNat 32 e.val)
    obtain ⟨q, hq, eq⟩ := hit_real b (BitVec.ofNat 32 e.val)
    rw [ep, eq, ← EReal.coe_mul, ← EReal.coe_mul, ← EReal.right_distrib_of_nonneg (EReal.coe_nonneg.mpr (mul_nonneg hp hu))
      (EReal.coe_nonneg.mpr (mul_nonneg hq hv)), ← EReal.coe_add, ← mul_sum_real _ _ (add_nonneg (mul_nonneg hp hu) (mul_nonneg hq hv))]
    exact Finset.sum_congr rfl fun k _ => by rw [mul_comm (x k), mul_assoc]
  · have h0 : ∀ (a : BitVec 32) (h : ¬ a.toNat < 16) (e : Fin 16), hit a (BitVec.ofNat 32 e.val) = 0 := fun a h e =>
      if_neg fun hc => h (((eq_ofNat a e).mp hc) ▸ e.isLt)
    unfold pick
    rw [dif_neg ha, dif_neg hb, mul_zero, mul_zero, add_zero]
    refine Finset.sum_eq_zero fun e _ => Finset.sum_eq_zero fun k _ => ?_
    rw [h0 a ha, h0 b hb, zero_mul, zero_mul, add_zero, mul_zero, zero_mul]

/-! ## The routing -/

/-- The value a maximum starts from. -/
abbrev lowest : EReal := Ideal.ofBits FTy.f32 4286578688#32
/-- The softmax of sixteen scores. -/
def prob (s : Fin 16 → EReal) (e : Fin 16) : EReal :=
  Ideal.div (Ideal.exp (s e - Finset.fold max lowest s Finset.univ)) (∑ e', Ideal.exp (s e' - Finset.fold max lowest s Finset.univ))

theorem lowest_eq : lowest = ⊥ := by
  simp [lowest, Ideal.ofBits, Ideal.ieee]

theorem sum_real {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Of real scores it is real and positive. -/
theorem prob_real (s : Fin 16 → EReal) (hs : ∀ e, ∃ r : ℝ, s e = r) : ∃ p : Fin 16 → ℝ, (∀ e, 0 < p e) ∧ ∀ e, prob s e = p e := by
  choose r hr using hs
  obtain ⟨μ, hμ⟩ : ∃ μ : ℝ, Finset.fold max lowest s Finset.univ = μ := by
    have hlt : ∀ T : Finset (Fin 16), Finset.fold max lowest s T < ⊤ := fun T =>
      Finset.fold_max_lt ⊤ |>.mpr ⟨by rw [lowest_eq]; exact bot_lt_top, fun e _ => by rw [hr]; exact EReal.coe_lt_top _⟩
    have hge : s 0 ≤ Finset.fold max lowest s Finset.univ := (Finset.le_fold_max _).mpr (.inr ⟨0, Finset.mem_univ _, le_rfl⟩)
    refine ⟨(Finset.fold max lowest s Finset.univ).toReal, (EReal.coe_toReal (hlt _).ne ?_).symm⟩
    rw [hr] at hge
    exact (lt_of_lt_of_le (EReal.bot_lt_coe _) hge).ne'
  have hex : ∀ e, Ideal.exp (s e - Finset.fold max lowest s Finset.univ) = (Real.exp (r e - μ) : ℝ) := fun e => by
    rw [hμ, hr, ← EReal.coe_sub]; rfl
  have hpos : 0 < ∑ e, Real.exp (r e - μ) := Finset.sum_pos (fun e _ => Real.exp_pos _) ⟨0, Finset.mem_univ _⟩
  refine ⟨fun e => Real.exp (r e - μ) * (1 / ∑ e, Real.exp (r e - μ)), fun e => mul_pos (Real.exp_pos _) (one_div_pos.mpr hpos), fun e => ?_⟩
  unfold prob
  rw [Finset.sum_congr rfl fun e' _ => hex e', hex, sum_real, Ideal.div_coe hpos.ne', EReal.coe_mul]

/-- The two weights are real and nonnegative where a slot names an expert. -/
theorem weights (s : Fin 16 → EReal) (hs : ∀ e, ∃ r : ℝ, s e = r) (a b : BitVec 32) :
    (∃ u v : ℝ, 0 ≤ u ∧ 0 ≤ v ∧ Ideal.div (pick (prob s) a) (pick (prob s) a + pick (prob s) b) = u
      ∧ Ideal.div (pick (prob s) b) (pick (prob s) a + pick (prob s) b) = v) ∨ ¬ a.toNat < 16 ∧ ¬ b.toNat < 16 := by
  obtain ⟨p, hp, ep⟩ := prob_real s hs
  by_cases h : a.toNat < 16 ∨ b.toNat < 16
  · refine .inl ?_
    have key : ∀ a : BitVec 32, ∃ g : ℝ, 0 ≤ g ∧ (a.toNat < 16 → 0 < g) ∧ pick (prob s) a = g := fun a => by
      unfold pick; split
      · exact ⟨p ⟨_, by assumption⟩, (hp _).le, fun _ => hp _, ep _⟩
      · exact ⟨0, le_rfl, fun h => absurd h (by assumption), rfl⟩
    obtain ⟨g, hg, hg', eg⟩ := key a
    obtain ⟨k, hk, hk', ek⟩ := key b
    have hpos : 0 < g + k := h.elim (fun h => add_pos_of_pos_of_nonneg (hg' h) hk) (fun h => add_pos_of_nonneg_of_pos hg (hk' h))
    refine ⟨g * (1 / (g + k)), k * (1 / (g + k)), mul_nonneg hg (one_div_pos.mpr hpos).le, mul_nonneg hk (one_div_pos.mpr hpos).le, ?_, ?_⟩
    · rw [eg, ek, ← EReal.coe_add, Ideal.div_coe hpos.ne', EReal.coe_mul]
    · rw [eg, ek, ← EReal.coe_add, Ideal.div_coe hpos.ne', EReal.coe_mul]
  · exact .inr (not_or.mp h)

/-! ## One entry of the result -/

/-- One entry of the mixture: the token `x`, the router `R`, the experts' columns `W`, the two slots. -/
def entry (x : Fin 512 → EReal) (R : Fin 512 → Fin 16 → EReal) (W : Fin 16 → Fin 512 → EReal) (a b : BitVec 32) : EReal :=
  Ideal.div (pick (prob fun e => ∑ k, x k * R k e) a) (pick (prob fun e => ∑ k, x k * R k e) a + pick (prob fun e => ∑ k, x k * R k e) b)
      * pick (fun e => ∑ k, x k * W e k) a
    + Ideal.div (pick (prob fun e => ∑ k, x k * R k e) b) (pick (prob fun e => ∑ k, x k * R k e) a + pick (prob fun e => ∑ k, x k * R k e) b)
      * pick (fun e => ∑ k, x k * W e k) b

/-- A score of finite numbers is real. -/
theorem score_real (x : Fin 512 → EReal) (R : Fin 512 → Fin 16 → EReal) (hx : ∀ k, ∃ r : ℝ, x k = r) (hR : ∀ k e, ∃ r : ℝ, R k e = r)
    (e : Fin 16) : ∃ r : ℝ, ∑ k, x k * R k e = r := by
  choose u hu using hx
  choose v hv using hR
  refine ⟨∑ k, u k * v k e, ?_⟩
  rw [← sum_real]
  exact Finset.sum_congr rfl fun k _ => by rw [hu, hv, EReal.coe_mul]

end Cert.KernelIdeal.Moe

end
-- ==== Proof.MatsAt.lean ====
/-
# Where each matrix comes from

The matrix read in the `n`-th place, at an index: the owner of the expert and its place there.
-/
module

public import proofs.«01_k».proof.Proof.Values
public import Idealize.ShloMosaic.Lib.Pointwise

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Slot `j` of the local experts. -/
theorem e0_at (f : eM.view.ty.Contents (Elt F)) (k : Fin 512) (h : Fin 1024) : e0.view.read (Elt F) f (ix2 k h) = f (ix3 0 k h) := by
  show shapeCast S512x1024 (eM.view.readAt (Elt F) RE0.toLoadRect f) (by decide) (ix2 k h) = _
  pointwise
  exact congrArg f (funext fun a => Fin.ext (by fin_cases a <;> first | rfl | exact (by omega : 0 + 1 * k.val = k.val) | exact (by omega : 0 + 1 * h.val = h.val)))
omit [FloatOps F] in
theorem e1_at (f : eM.view.ty.Contents (Elt F)) (k : Fin 512) (h : Fin 1024) : e1.view.read (Elt F) f (ix2 k h) = f (ix3 1 k h) := by
  show shapeCast S512x1024 (eM.view.readAt (Elt F) RE1.toLoadRect f) (by decide) (ix2 k h) = _
  pointwise
  exact congrArg f (funext fun a => Fin.ext (by fin_cases a <;> first | rfl | exact (by omega : 0 + 1 * k.val = k.val) | exact (by omega : 0 + 1 * h.val = h.val)))
omit [FloatOps F] in
theorem e2_at (f : eM.view.ty.Contents (Elt F)) (k : Fin 512) (h : Fin 1024) : e2.view.read (Elt F) f (ix2 k h) = f (ix3 2 k h) := by
  show shapeCast S512x1024 (eM.view.readAt (Elt F) RE2.toLoadRect f) (by decide) (ix2 k h) = _
  pointwise
  exact congrArg f (funext fun a => Fin.ext (by fin_cases a <;> first | rfl | exact (by omega : 0 + 1 * k.val = k.val) | exact (by omega : 0 + 1 * h.val = h.val)))
omit [FloatOps F] in
theorem e3_at (f : eM.view.ty.Contents (Elt F)) (k : Fin 512) (h : Fin 1024) : e3.view.read (Elt F) f (ix2 k h) = f (ix3 3 k h) := by
  show shapeCast S512x1024 (eM.view.readAt (Elt F) RE3.toLoadRect f) (by decide) (ix2 k h) = _
  pointwise
  exact congrArg f (funext fun a => Fin.ext (by fin_cases a <;> first | rfl | exact (by omega : 0 + 1 * k.val = k.val) | exact (by omega : 0 + 1 * h.val = h.val)))

omit [FloatOps F] in
/-- The two experts sent clockwise, the two sent the other way. -/
theorem eLo0_at (f : eM.view.ty.Contents (Elt F)) (k : Fin 512) (h : Fin 1024) : eLo.view.read (Elt F) f (ix3 0 k h) = f (ix3 0 k h) :=
  congrArg f (funext fun a => Fin.ext (by fin_cases a <;> first | rfl | exact (by omega : 0 + 1 * k.val = k.val) | exact (by omega : 0 + 1 * h.val = h.val)))
omit [FloatOps F] in
theorem eLo1_at (f : eM.view.ty.Contents (Elt F)) (k : Fin 512) (h : Fin 1024) : eLo.view.read (Elt F) f (ix3 1 k h) = f (ix3 1 k h) :=
  congrArg f (funext fun a => Fin.ext (by fin_cases a <;> first | rfl | exact (by omega : 0 + 1 * k.val = k.val) | exact (by omega : 0 + 1 * h.val = h.val)))
omit [FloatOps F] in
theorem eHi0_at (f : eM.view.ty.Contents (Elt F)) (k : Fin 512) (h : Fin 1024) : eHi.view.read (Elt F) f (ix3 0 k h) = f (ix3 2 k h) :=
  congrArg f (funext fun a => Fin.ext (by fin_cases a <;> first | rfl | exact (by omega : 0 + 1 * k.val = k.val) | exact (by omega : 0 + 1 * h.val = h.val)))
omit [FloatOps F] in
theorem eHi1_at (f : eM.view.ty.Contents (Elt F)) (k : Fin 512) (h : Fin 1024) : eHi.view.read (Elt F) f (ix3 1 k h) = f (ix3 3 k h) :=
  congrArg f (funext fun a => Fin.ext (by fin_cases a <;> first | rfl | exact (by omega : 0 + 1 * k.val = k.val) | exact (by omega : 0 + 1 * h.val = h.val)))

section Rounds
variable (b : Memref sig .tc .hbm S3x2x512x1024 .f32) (f : b.view.ty.Contents (Elt F)) (k : Fin 512) (h : Fin 1024)

omit [FloatOps F] in
/-- A matrix of a round is that matrix of the round's pair. -/
theorem s00_at : (s00 b).view.read (Elt F) f (ix2 k h) = (pc0 b).view.read (Elt F) f (ix3 0 k h) := by
  show shapeCast S512x1024 (b.view.readAt (Elt F) R00.toLoadRect f) (by decide) (ix2 k h) =
    shapeCast S2x512x1024 (b.view.readAt (Elt F) R0.toLoadRect f) (by decide) (ix3 0 k h)
  pointwise
  exact congrArg (b.view.read (Elt F) f) (funext fun a => Fin.ext (by fin_cases a <;> rfl))
omit [FloatOps F] in
theorem s01_at : (s01 b).view.read (Elt F) f (ix2 k h) = (pc0 b).view.read (Elt F) f (ix3 1 k h) := by
  show shapeCast S512x1024 (b.view.readAt (Elt F) R01.toLoadRect f) (by decide) (ix2 k h) =
    shapeCast S2x512x1024 (b.view.readAt (Elt F) R0.toLoadRect f) (by decide) (ix3 1 k h)
  pointwise
  exact congrArg (b.view.read (Elt F) f) (funext fun a => Fin.ext (by fin_cases a <;> rfl))
omit [FloatOps F] in
theorem s10_at : (s10 b).view.read (Elt F) f (ix2 k h) = (pc1 b).view.read (Elt F) f (ix3 0 k h) := by
  show shapeCast S512x1024 (b.view.readAt (Elt F) R10.toLoadRect f) (by decide) (ix2 k h) =
    shapeCast S2x512x1024 (b.view.readAt (Elt F) R1.toLoadRect f) (by decide) (ix3 0 k h)
  pointwise
  exact congrArg (b.view.read (Elt F) f) (funext fun a => Fin.ext (by fin_cases a <;> rfl))
omit [FloatOps F] in
theorem s11_at : (s11 b).view.read (Elt F) f (ix2 k h) = (pc1 b).view.read (Elt F) f (ix3 1 k h) := by
  show shapeCast S512x1024 (b.view.readAt (Elt F) R11.toLoadRect f) (by decide) (ix2 k h) =
    shapeCast S2x512x1024 (b.view.readAt (Elt F) R1.toLoadRect f) (by decide) (ix3 1 k h)
  pointwise
  exact congrArg (b.view.read (Elt F) f) (funext fun a => Fin.ext (by fin_cases a <;> rfl))
omit [FloatOps F] in
theorem s20_at : (s20 b).view.read (Elt F) f (ix2 k h) = (pc2 b).view.read (Elt F) f (ix3 0 k h) := by
  show shapeCast S512x1024 (b.view.readAt (Elt F) R20.toLoadRect f) (by decide) (ix2 k h) =
    shapeCast S2x512x1024 (b.view.readAt (Elt F) R2.toLoadRect f) (by decide) (ix3 0 k h)
  pointwise
  exact congrArg (b.view.read (Elt F) f) (funext fun a => Fin.ext (by fin_cases a <;> rfl))
omit [FloatOps F] in
theorem s21_at : (s21 b).view.read (Elt F) f (ix2 k h) = (pc2 b).view.read (Elt F) f (ix3 1 k h) := by
  show shapeCast S512x1024 (b.view.readAt (Elt F) R21.toLoadRect f) (by decide) (ix2 k h) =
    shapeCast S2x512x1024 (b.view.readAt (Elt F) R2.toLoadRect f) (by decide) (ix3 1 k h)
  pointwise
  exact congrArg (b.view.read (Elt F) f) (funext fun a => Fin.ext (by fin_cases a <;> rfl))
end Rounds

omit [FloatOps F] in
/-- What a round's pair reads back. -/
theorem cw0_rd (c : Dev nD) : (pc0 cwM).view.read (Elt F) (cwC0 m c) = eLo.view.read (Elt F) (ewC m (prv c)) := View.read_write_univ _ _
omit [FloatOps F] in
theorem cw1_rd (c : Dev nD) : (pc1 cwM).view.read (Elt F) (cwC1 m c) = eLo.view.read (Elt F) (ewC m (prv (prv c))) :=
  (View.read_write_univ _ _).trans (cw0_rd m (prv c))
omit [FloatOps F] in
theorem cw2_rd (c : Dev nD) : (pc2 cwM).view.read (Elt F) (cwC2 m c) = eLo.view.read (Elt F) (ewC m (prv (prv (prv c)))) :=
  (View.read_write_univ _ _).trans (cw1_rd m (prv c))
omit [FloatOps F] in
theorem cc0_rd (c : Dev nD) : (pc0 ccM).view.read (Elt F) (ccC0 m c) = eHi.view.read (Elt F) (ewC m (nxt c)) := View.read_write_univ _ _
omit [FloatOps F] in
theorem cc1_rd (c : Dev nD) : (pc1 ccM).view.read (Elt F) (ccC1 m c) = eHi.view.read (Elt F) (ewC m (nxt (nxt c))) :=
  (View.read_write_univ _ _).trans (cc0_rd m (nxt c))
omit [FloatOps F] in
theorem cc2_rd (c : Dev nD) : (pc2 ccM).view.read (Elt F) (ccC2 m c) = eHi.view.read (Elt F) (ewC m (nxt (nxt (nxt c)))) :=
  (View.read_write_univ _ _).trans (cc1_rd m (nxt c))

/-- The device that owns the `n`-th expert device `c` takes, and which of its four experts it is. -/
def srcOf (c : Dev nD) : Fin 16 → Dev nD :=
  ![c, c, c, c, prv c, prv c, nxt c, nxt c, prv (prv c), prv (prv c), nxt (nxt c), nxt (nxt c),
    prv (prv (prv c)), prv (prv (prv c)), nxt (nxt (nxt c)), nxt (nxt (nxt c))]
def rowOf : Fin 16 → Fin 4 := ![0, 1, 2, 3, 0, 1, 2, 3, 0, 1, 2, 3, 0, 1, 2, 3]

omit [FloatOps F] in
theorem mats_at (c : Dev nD) (n : Fin 16) (k : Fin 512) (h : Fin 1024) : mats m c n (ix2 k h) = ewC m (srcOf c n) (ix3 (rowOf n) k h) := by
  fin_cases n
  · exact e0_at _ k h
  · exact e1_at _ k h
  · exact e2_at _ k h
  · exact e3_at _ k h
  · exact (s00_at cwM _ k h).trans ((congrFun (cw0_rd m c) _).trans (eLo0_at _ k h))
  · exact (s01_at cwM _ k h).trans ((congrFun (cw0_rd m c) _).trans (eLo1_at _ k h))
  · exact (s00_at ccM _ k h).trans ((congrFun (cc0_rd m c) _).trans (eHi0_at _ k h))
  · exact (s01_at ccM _ k h).trans ((congrFun (cc0_rd m c) _).trans (eHi1_at _ k h))
  · exact (s10_at cwM _ k h).trans ((congrFun (cw1_rd m c) _).trans (eLo0_at _ k h))
  · exact (s11_at cwM _ k h).trans ((congrFun (cw1_rd m c) _).trans (eLo1_at _ k h))
  · exact (s10_at ccM _ k h).trans ((congrFun (cc1_rd m c) _).trans (eHi0_at _ k h))
  · exact (s11_at ccM _ k h).trans ((congrFun (cc1_rd m c) _).trans (eHi1_at _ k h))
  · exact (s20_at cwM _ k h).trans ((congrFun (cw2_rd m c) _).trans (eLo0_at _ k h))
  · exact (s21_at cwM _ k h).trans ((congrFun (cw2_rd m c) _).trans (eLo1_at _ k h))
  · exact (s20_at ccM _ k h).trans ((congrFun (cc2_rd m c) _).trans (eHi0_at _ k h))
  · exact (s21_at ccM _ k h).trans ((congrFun (cc2_rd m c) _).trans (eHi1_at _ k h))

/-- The number of the expert. -/
theorem exp_lt (s : Dev nD) (j : Fin 4) : s.val * 4 + j.val < 16 := by have := s.isLt; simp only [nD] at this; omega
def expOf (c : Dev nD) (n : Fin 16) : Fin 16 := ⟨(srcOf c n).val * 4 + (rowOf n).val, exp_lt _ _⟩
theorem ids_at : ∀ (c : Dev nD) (n : Fin 16), ids c n = BitVec.ofNat 32 (expOf c n).val := by decide
/-- Every expert is taken once. -/
theorem exp_bij : ∀ c : Dev nD, Function.Bijective (expOf c) := by decide

end Cert.KernelIdeal.Moe

end
-- ==== Proof.KernelAt.lean ====
/-
# The kernel at an index

The routing, one contribution and the accumulator, entry by entry.
-/
module

public import proofs.«01_k».proof.Proof.Math
public import proofs.«01_k».proof.Proof.MatsAt

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt Ideal) ℓ)

/-- A slot's mask as a number. -/
theorem mask_at (a e : BitVec 32) : FloatOps.sitofp (F := Ideal) FTy.f32 (BitVec.setWidth 32 (IntOp.cmpi CmpIPredicate.eq a e)) = hit a e := by
  unfold hit
  split
  · rename_i h; subst h
    simp [IntOp.cmpi, FloatOps.sitofp]
  · rename_i h
    have hb : (a == e) = false := beq_eq_false_iff_ne.mpr h
    simp [IntOp.cmpi, FloatOps.sitofp, hb]

theorem probs_at (x : Vec Ideal S2048x512 .f32) (r : Vec Ideal S512x16 .f32) (t : Fin 2048) (e : Fin 16) :
    k0_pay3 (F := Ideal) x r (ix2 t e) = prob (fun e => ∑ k, x (ix2 t k) * r (ix2 k e)) e := by
  pointwise [k0_pay3, k0_pay2]
  rfl

theorem hit_comm (a e : BitVec 32) : hit a e = hit e a := by unfold hit; simp only [eq_comm]

theorem gate0_at (x : Vec Ideal S2048x512 .f32) (r : Vec Ideal S512x16 .f32) (a : Vec Ideal S2048x1 .i32) (t : Fin 2048) :
    k0_pay6 (F := Ideal) x r a (ix2 t 0) = pick (prob fun e => ∑ k, x (ix2 t k) * r (ix2 k e)) (a (ix2 t 0)) := by
  rw [← sum_hit]
  pointwise [k0_pay6, k0_pay4]
  exact Finset.sum_congr rfl fun e _ => by rw [mask_at, probs_at, hit_comm, mul_comm]
theorem gate1_at (x : Vec Ideal S2048x512 .f32) (r : Vec Ideal S512x16 .f32) (a : Vec Ideal S2048x1 .i32) (t : Fin 2048) :
    k0_pay7 (F := Ideal) x r a (ix2 t 0) = pick (prob fun e => ∑ k, x (ix2 t k) * r (ix2 k e)) (a (ix2 t 0)) := by
  rw [← sum_hit]
  pointwise [k0_pay7, k0_pay5]
  exact Finset.sum_congr rfl fun e _ => by rw [mask_at, probs_at, hit_comm, mul_comm]
theorem w0_at (x : Vec Ideal S2048x512 .f32) (r : Vec Ideal S512x16 .f32) (a b : Vec Ideal S2048x1 .i32) (t : Fin 2048) :
    k0_pay9 (F := Ideal) x r a b (ix2 t 0) = Ideal.div (pick (prob fun e => ∑ k, x (ix2 t k) * r (ix2 k e)) (a (ix2 t 0)))
      (pick (prob fun e => ∑ k, x (ix2 t k) * r (ix2 k e)) (a (ix2 t 0)) + pick (prob fun e => ∑ k, x (ix2 t k) * r (ix2 k e)) (b (ix2 t 0))) := by
  rw [← gate0_at, ← gate1_at]; rfl
theorem w1_at (x : Vec Ideal S2048x512 .f32) (r : Vec Ideal S512x16 .f32) (a b : Vec Ideal S2048x1 .i32) (t : Fin 2048) :
    k0_pay10 (F := Ideal) x r a b (ix2 t 0) = Ideal.div (pick (prob fun e => ∑ k, x (ix2 t k) * r (ix2 k e)) (b (ix2 t 0)))
      (pick (prob fun e => ∑ k, x (ix2 t k) * r (ix2 k e)) (a (ix2 t 0)) + pick (prob fun e => ∑ k, x (ix2 t k) * r (ix2 k e)) (b (ix2 t 0))) := by
  rw [← gate0_at, ← gate1_at]; rfl

theorem lift1_at (E : Mat Ideal) (k : Fin 512) (h : Fin 1024) : lift1 E (ix3 0 k h) = E (ix2 k h) := by
  unfold lift1
  pointwise

/-- One expert's contribution to an entry. -/
theorem term_at (t : Rt Ideal) (e : BitVec 32) (E : Mat Ideal) (r : Fin 2048) (h : Fin 1024) :
    term t e E (ix2 r h) = ∑ k, t.x (ix2 r k) * (hit (t.a (ix2 r 0)) e * t.wa (ix2 r 0) + hit (t.b (ix2 r 0)) e * t.wb (ix2 r 0)) * E (ix2 k h) := by
  pointwise [term, coef]
  exact Finset.sum_congr rfl fun k _ => by rw [mask_at, mask_at, lift1_at]

/-- The accumulator is the sum of what has been added. -/
theorem accs_at (t : Rt Ideal) (id : ℕ → BitVec 32) (E : ℕ → Mat Ideal) (r : Fin 2048) (h : Fin 1024) (n : ℕ) :
    accs t id E n (ix2 r h) = ∑ i ∈ Finset.range (n + 1), term t (id i) (E i) (ix2 r h) := by
  induction n with
  | zero => simp [accs]
  | succ n ih =>
    rw [Finset.sum_range_succ, ← ih]
    show upd t (id (n + 1)) (E (n + 1)) (accs t id E n) (ix2 r h) = _
    pointwise [upd]

theorem col0_at (i : iM.view.ty.Contents (Elt Ideal)) (r : Fin 2048) : col0 i (ix2 r 0) = i (ix2 r 0) :=
  congrArg i (funext fun a => Fin.ext (by fin_cases a <;> first | rfl | exact (by omega : 0 + 1 * r.val = r.val)))
theorem col1_at (i : iM.view.ty.Contents (Elt Ideal)) (r : Fin 2048) : col1 i (ix2 r 0) = i (ix2 r 1) :=
  congrArg i (funext fun a => Fin.ext (by fin_cases a <;> first | rfl | exact (by omega : 0 + 1 * r.val = r.val)))

/-- The sixteen contributions to an entry of device `c`'s block, by expert. -/
theorem total_at (c : Dev nD) (x : Vec Ideal S2048x512 .f32) (R : Vec Ideal S512x16 .f32) (i : Vec Ideal S2048x2 .i32) (r : Fin 2048) (h : Fin 1024)
    (W : Fin 16 → Fin 512 → EReal) (hW : ∀ n k, W (expOf c n) k = mats m c n (ix2 k h))
    (hx : ∀ k, ∃ v : ℝ, x (ix2 r k) = v) (hR : ∀ k e, ∃ v : ℝ, R (ix2 k e) = v) :
    accs (rtOf x R i) (ids c) (mats m c) 15 (ix2 r h)
      = entry (fun k => x (ix2 r k)) (fun k e => R (ix2 k e)) W (i (ix2 r 0)) (i (ix2 r 1)) := by
  rw [accs_at, Finset.sum_range]
  have ea : (rtOf x R i).a (ix2 r 0) = i (ix2 r 0) := by
    show k0_pay4 (F := Ideal) (col0 i) (ix2 r 0) = _
    pointwise [k0_pay4]; exact col0_at i r
  have eb : (rtOf x R i).b (ix2 r 0) = i (ix2 r 1) := by
    show k0_pay5 (F := Ideal) (col1 i) (ix2 r 0) = _
    pointwise [k0_pay5]; exact col1_at i r
  have ex : ∀ k, (rtOf x R i).x (ix2 r k) = x (ix2 r k) := fun k => by
    show k0_pay2 (F := Ideal) x (ix2 r k) = _
    pointwise [k0_pay2]
  have ewa := w0_at x R (col0 i) (col1 i) r
  have ewb := w1_at x R (col0 i) (col1 i) r
  rw [col0_at, col1_at] at ewa ewb
  have hs := score_real (fun k => x (ix2 r k)) (fun k e => R (ix2 k e)) hx hR
  refine Eq.trans ?_ (combine (fun k => x (ix2 r k)) W _ _ _ _ (weights _ hs (i (ix2 r 0)) (i (ix2 r 1))))
  refine Eq.trans ?_ ((Equiv.ofBijective _ (exp_bij c)).sum_comp _)
  refine Finset.sum_congr rfl fun n _ => ?_
  rw [term_at]
  refine Finset.sum_congr rfl fun k _ => ?_
  rw [ea, eb, ex]
  show x (ix2 r k) * (_ * k0_pay9 (F := Ideal) x R (col0 i) (col1 i) (ix2 r 0) + _ * k0_pay10 (F := Ideal) x R (col0 i) (col1 i) (ix2 r 0)) * _ =
    x (ix2 r k) * (hit _ (BitVec.ofNat 32 (expOf c n).val) * _ + hit _ (BitVec.ofNat 32 (expOf c n).val) * _) * W (expOf c n) k
  rw [ewa, ewb, hW, ids_at]

end Cert.KernelIdeal.Moe

end
-- ==== Proof.RefAt.lean ====
/-
# The reference at an index

The look-ups, the routing and the mixture, entry by entry.
-/
module

public import proofs.«01_k».proof.Proof.Math
public import proofs.«01_k».proof.Proof.Gen.ReferenceIdeal.Run
public import Idealize.ShloMosaic.Lib.Pointwise
public import Idealize.ShloMosaic.Lib.KernelVsHost

@[expose] public section

noncomputable section

namespace Cert.ReferenceIdeal.Value

open Cert.ReferenceIdeal Cert.ReferenceIdeal.Gen Idealize.ShloMosaic Idealize.ShloMosaic.TcCoe Idealize.SL.Sem
open Cert.KernelIdeal.Moe (prob pick entry)

variable {F : FTy → Type} [FloatOps F]

/-- The pairs token, expert that are looked up. -/
def pairs (i : IVec S8192x2 32) : IVec S8192x2x2 32 :=
  concatenate S8192x2x2 2 [⟨S8192x2x1, (broadcastInDim S8192x2x1 ![0, 1] bcast_S8192x2_S8192x2x1_0_1 (broadcastInDim S8192x2 ![0, 1] bcast_S8192x1_S8192x2_0_1 (broadcastInDim S8192x1 ![0] bcast_S8192_S8192x1_0 (iotaInDim S8192 32 0))))⟩, ⟨S8192x2x1, (broadcastInDim S8192x2x1 ![0, 1] bcast_S8192x2_S8192x2x1_0_1 i)⟩] concatenates_S8192x2x1_S8192x2x1_S8192x2x2_d2
/-- Which pairs lie inside. -/
def within (i : IVec S8192x2 32) : IVec S8192x2 1 :=
  Host.reduce IntOp.andi (andi (cmpi .sge (pairs i) (broadcastInDim S8192x2x2 ![] bcast_S_S8192x2x2 (constantI S_ 32 0#32))) (cmpi .sle (pairs i) (broadcastInDim S8192x2x2 ![0, 1, 2] bcast_S1x1x2_S8192x2x2_0_1_2 (broadcastInDim S1x1x2 ![2] bcast_S2_S1x1x2_2 ((fun i => lit0 (S2.rowMajor i))))))) (constantI S_ 1 1#1) reducesTo_S8192x2x2_S8192x2_d2 h_S_
def scores (x : FVec F S8192x512 .f32) (r : FVec F S512x16 .f32) : FVec F S8192x16 .f32 :=
  Host.dotGeneral dot_S8192x512_S512x16_S8192x16_1_0_0_1_n_n none x r
def expo (x : FVec F S8192x512 .f32) (r : FVec F S512x16 .f32) : FVec F S8192x16 .f32 :=
  Host.exp (subf (scores x r) (broadcastInDim S8192x16 ![0, 1] bcast_S8192x1_S8192x16_0_1 (broadcastInDim S8192x1 ![0] bcast_S8192_S8192x1_0 (Host.reduce FloatOps.maximumf (scores x r) (constant S_ .f32 0xFF800000#32) reducesTo_S8192x16_S8192_d1 h_S_))))
def probs (x : FVec F S8192x512 .f32) (r : FVec F S512x16 .f32) : FVec F S8192x16 .f32 :=
  Host.divf (expo x r) (broadcastInDim S8192x16 ![0, 1] bcast_S8192x1_S8192x16_0_1 (broadcastInDim S8192x1 ![0] bcast_S8192_S8192x1_0 (Host.reduceAdd (expo x r) (constant S_ .f32 0x00000000#32) reducesTo_S8192x16_S8192_d1 h_S_)))
def gates (x : FVec F S8192x512 .f32) (r : FVec F S512x16 .f32) (i : IVec S8192x2 32) : FVec F S8192x2 .f32 :=
  select (within i) (Host.gather gather_S8192x16_S8192x2x2_S8192x2_n_01_n_n_01_2_11 (probs x r) (pairs i)) (broadcastInDim S8192x2 ![] bcast_S_S8192x2 (constant S_ .f32 0x00000000#32))
def outs (x : FVec F S8192x512 .f32) (W : FVec F S16x512x1024 .f32) : FVec F S8192x16x1024 .f32 :=
  Host.dotGeneral dot_S8192x512_S16x512x1024_S8192x16x1024_1_1_0_02_n_n none x W
def prods (x : FVec F S8192x512 .f32) (i : IVec S8192x2 32) (W : FVec F S16x512x1024 .f32) : FVec F S8192x2x1024 .f32 :=
  select (broadcastInDim S8192x2x1024 ![0, 1] bcast_S8192x2_S8192x2x1024_0_1 (within i)) (Host.gather gather_S8192x16x1024_S8192x2x2_S8192x2x1024_2_01_n_n_01_2_111024 (outs x W) (pairs i)) (broadcastInDim S8192x2x1024 ![] bcast_S_S8192x2x1024 (constant S_ .f32 0x00000000#32))
def shares (x : FVec F S8192x512 .f32) (r : FVec F S512x16 .f32) (i : IVec S8192x2 32) : FVec F S8192x2 .f32 :=
  Host.divf (gates x r i) (broadcastInDim S8192x2 ![0, 1] bcast_S8192x1_S8192x2_0_1 (broadcastInDim S8192x1 ![0] bcast_S8192_S8192x1_0 (Host.reduceAdd (gates x r i) (constant S_ .f32 0x00000000#32) reducesTo_S8192x2_S8192_d1 h_S_)))
def mixed (x : FVec F S8192x512 .f32) (r : FVec F S512x16 .f32) (i : IVec S8192x2 32) (W : FVec F S16x512x1024 .f32) : FVec F S8192x1024 .f32 :=
  Host.reduceAdd (mulf (broadcastInDim S8192x2x1024 ![0, 1, 2] bcast_S8192x2x1_S8192x2x1024_0_1_2 (broadcastInDim S8192x2x1 ![0, 1] bcast_S8192x2_S8192x2x1_0_1 (shares x r i))) (prods x i W)) (constant S_ .f32 0x00000000#32) reducesTo_S8192x2x1024_S8192x1024_d1 h_S_

/-- What the reference leaves, by these names. -/
theorem res_eq (m : (ℓ : Loc nD τ sig) → Buf (Elt F) ℓ) (c : Dev nD) : res_main_v49 m c
    = mixed (m ((c.tc : Thread nD τ).loc main_arg0)) (m ((c.tc : Thread nD τ).loc main_arg1)) (m ((c.tc : Thread nD τ).loc main_arg2)) (m ((c.tc : Thread nD τ).loc main_arg3)) := rfl

theorem pairs_0 (i : IVec S8192x2 32) (t : Fin 8192) (s : Fin 2) : pairs i (ix3 t s 0) = BitVec.ofNat 32 t.val := by
  unfold pairs
  rw [concatenate_pair_apply_left (t := S8192x2x2) (s₁ := S8192x2x1) (s₂ := S8192x2x1) 2 _ _ _ (ix3 t s 0) rfl (ix3 t s 0)
    (fun b => by fin_cases b <;> rfl)]
  pointwise
theorem pairs_1 (i : IVec S8192x2 32) (t : Fin 8192) (s : Fin 2) : pairs i (ix3 t s 1) = i (ix2 t s) := by
  unfold pairs
  rw [concatenate_pair_apply_right (t := S8192x2x2) (s₁ := S8192x2x1) (s₂ := S8192x2x1) 2 _ _ _ (ix3 t s 1) rfl rfl (ix3 t s 0)
    (fun b hb => by fin_cases b <;> first | rfl | exact absurd rfl hb) rfl]
  pointwise

/-- A word from 0 to `n`, compared as a signed number. -/
theorem cmp_range (a : BitVec 32) (n : ℕ) (hn : n < 2 ^ 31) :
    IntOp.andi (IntOp.cmpi CmpIPredicate.sge a 0#32) (IntOp.cmpi CmpIPredicate.sle a (BitVec.ofNat 32 n)) = if a.toNat ≤ n then 1#1 else 0#1 := by
  have hn' : (BitVec.ofNat 32 n).toInt = n := by
    rw [BitVec.toInt_eq_toNat_cond, BitVec.toNat_ofNat, Nat.mod_eq_of_lt (by omega), if_pos (by omega)]
  have ha := BitVec.toInt_eq_toNat_cond a
  have hl := a.isLt
  simp only [IntOp.cmpi, IntOp.andi, BitVec.sle, hn', BitVec.toInt_zero]
  split at ha <;> rename_i h2 <;> split <;> rename_i h
  · have h0 : decide ((0 : ℤ) ≤ a.toInt) = true := decide_eq_true (by omega)
    have h1 : decide (a.toInt ≤ (n : ℤ)) = true := decide_eq_true (by omega)
    rw [h0, h1]; rfl
  · have h1 : decide (a.toInt ≤ (n : ℤ)) = false := decide_eq_false (by omega)
    rw [h1]; simp
  · omega
  · have h0 : decide ((0 : ℤ) ≤ a.toInt) = false := decide_eq_false (by omega)
    rw [h0]; simp

theorem within_at (i : IVec S8192x2 32) (t : Fin 8192) (s : Fin 2) : within i (ix2 t s) = if (i (ix2 t s)).toNat < 16 then 1#1 else 0#1 := by
  pointwise [within]
  have hf : ∀ f : Fin 2 → BitVec 1, Finset.fold IntOp.andi (1#1) f Finset.univ = IntOp.andi (f 0) (f 1) := fun f => by
    rw [show (Finset.univ : Finset (Fin 2)) = {0, 1} from rfl, Finset.fold_insert (by decide), Finset.fold_singleton]
    show f 0 &&& (f 1 &&& 1#1) = f 0 &&& f 1
    rw [show f 1 &&& 1#1 = f 1 from by generalize f 1 = b; revert b; decide]
  have h0 : IntOp.andi (IntOp.cmpi CmpIPredicate.sge (pairs i (ix3 t s 0)) 0#32)
      (IntOp.cmpi CmpIPredicate.sle (pairs i (ix3 t s 0)) (lit0 (S2.rowMajor (ix1 0)))) = 1#1 := by
    rw [pairs_0, show lit0 (S2.rowMajor (ix1 0)) = BitVec.ofNat 32 8191 from rfl, cmp_range _ _ (by norm_num), if_pos]
    have := t.isLt
    rw [BitVec.toNat_ofNat]; omega
  have h1 : IntOp.andi (IntOp.cmpi CmpIPredicate.sge (pairs i (ix3 t s 1)) 0#32)
      (IntOp.cmpi CmpIPredicate.sle (pairs i (ix3 t s 1)) (lit0 (S2.rowMajor (ix1 1)))) = if (i (ix2 t s)).toNat < 16 then 1#1 else 0#1 := by
    rw [pairs_1, show lit0 (S2.rowMajor (ix1 1)) = BitVec.ofNat 32 15 from rfl, cmp_range _ _ (by norm_num)]
    exact if_congr (by omega) rfl rfl
  rw [hf]
  refine (congrArg₂ IntOp.andi h0 h1).trans ?_
  split <;> rfl

theorem probs_at (x : FVec Ideal S8192x512 .f32) (r : FVec Ideal S512x16 .f32) (t : Fin 8192) (e : Fin 16) :
    probs x r (ix2 t e) = prob (fun e => ∑ k, x (ix2 t k) * r (ix2 k e)) e := by
  pointwise [probs, expo, scores]
  rfl

theorem outs_at (x : FVec Ideal S8192x512 .f32) (W : FVec Ideal S16x512x1024 .f32) (t : Fin 8192) (e : Fin 16) (h : Fin 1024) :
    outs x W (ix3 t e h) = ∑ k, x (ix2 t k) * W (ix3 e k h) := by
  pointwise [outs]

/-- The start of a look-up, for a pair inside. -/
theorem start_0 (i : IVec S8192x2 32) (t : Fin 8192) (s : Fin 2) : min (pairs i (ix3 t s 0)).toInt.toNat (8192 - 1) = t.val := by
  have := t.isLt
  rw [pairs_0, BitVec.toInt_eq_toNat_cond, BitVec.toNat_ofNat, Nat.mod_eq_of_lt (by omega), if_pos (by omega), Int.toNat_natCast]; omega
theorem start_1 (i : IVec S8192x2 32) (t : Fin 8192) (s : Fin 2) (h : (i (ix2 t s)).toNat < 16) :
    min (pairs i (ix3 t s 1)).toInt.toNat (16 - 1) = (i (ix2 t s)).toNat := by
  rw [pairs_1, BitVec.toInt_eq_toNat_cond, if_pos (by omega), Int.toNat_natCast]; omega

/-- The look-up of a gate, for a pair inside. -/
theorem look_gate {α : Type} (x : S8192x16.Idx → α) (i : IVec S8192x2 32) (t : Fin 8192) (s : Fin 2) (h : (i (ix2 t s)).toNat < 16) :
    Host.gather gather_S8192x16_S8192x2x2_S8192x2_n_01_n_n_01_2_11 x (pairs i) (ix2 t s) = x (ix2 t ⟨(i (ix2 t s)).toNat, h⟩) := by
  unfold Host.gather
  congr 1
  funext a
  refine Fin.ext ?_
  let d := gather_S8192x16_S8192x2x2_S8192x2_n_01_n_n_01_2_11
  show d.start (ix2 t s) (pairs i) a + d.batchCoord (ix2 t s) a + d.offCoord (ix2 t s) a = _
  have hb : d.batchCoord (ix2 t s) a = 0 := GatherDims.batchCoord_eq_zero _ _ _ List.not_mem_nil
  have ho : d.offCoord (ix2 t s) a = 0 := GatherDims.offCoord_eq_zero _ _ _ (fun h => ((GatherDims.mem_sKept _ _).mp h).1 (by
    show a ∈ ([0, 1] : List (Fin 2)); fin_cases a <;> decide))
  rw [hb, ho]
  unfold GatherDims.start
  obtain rfl | rfl : a = 0 ∨ a = 1 := by fin_cases a; exacts [.inl rfl, .inr rfl]
  · rw [dif_pos (show (0 : Fin 2) ∈ d.startIndexMap from by decide)]
    refine Eq.trans ?_ (start_0 i t s)
    refine congrArg (fun j => min (pairs i j).toInt.toNat (8192 - 1)) (funext fun b => Fin.ext ?_)
    fin_cases b <;> rfl
  · rw [dif_pos (show (1 : Fin 2) ∈ d.startIndexMap from by decide)]
    refine Eq.trans ?_ (start_1 i t s h)
    refine congrArg (fun j => min (pairs i j).toInt.toNat (16 - 1)) (funext fun b => Fin.ext ?_)
    fin_cases b <;> rfl

/-- The look-up of a product, for a pair inside. -/
theorem look_prod {α : Type} (x : S8192x16x1024.Idx → α) (i : IVec S8192x2 32) (t : Fin 8192) (s : Fin 2) (k : Fin 1024) (h : (i (ix2 t s)).toNat < 16) :
    Host.gather gather_S8192x16x1024_S8192x2x2_S8192x2x1024_2_01_n_n_01_2_111024 x (pairs i) (ix3 t s k) = x (ix3 t ⟨(i (ix2 t s)).toNat, h⟩ k) := by
  unfold Host.gather
  congr 1
  funext a
  refine Fin.ext ?_
  let d := gather_S8192x16x1024_S8192x2x2_S8192x2x1024_2_01_n_n_01_2_111024
  show d.start (ix3 t s k) (pairs i) a + d.batchCoord (ix3 t s k) a + d.offCoord (ix3 t s k) a = _
  have hb : d.batchCoord (ix3 t s k) a = 0 := GatherDims.batchCoord_eq_zero _ _ _ List.not_mem_nil
  have ho : a ∈ ([0, 1] : List (Fin 3)) → d.offCoord (ix3 t s k) a = 0 := fun ha =>
    GatherDims.offCoord_eq_zero _ _ _ (fun h => ((GatherDims.mem_sKept _ _).mp h).1 ha)
  rw [hb]
  unfold GatherDims.start
  obtain rfl | rfl | rfl : a = 0 ∨ a = 1 ∨ a = 2 := by fin_cases a; exacts [.inl rfl, .inr (.inl rfl), .inr (.inr rfl)]
  · rw [ho (by decide), dif_pos (show (0 : Fin 3) ∈ d.startIndexMap from by decide)]
    refine Eq.trans ?_ (start_0 i t s)
    refine congrArg (fun j => min (pairs i j).toInt.toNat (8192 - 1)) (funext fun b => Fin.ext ?_)
    fin_cases b <;> rfl
  · rw [ho (by decide), dif_pos (show (1 : Fin 3) ∈ d.startIndexMap from by decide)]
    refine Eq.trans ?_ (start_1 i t s h)
    refine congrArg (fun j => min (pairs i j).toInt.toNat (16 - 1)) (funext fun b => Fin.ext ?_)
    fin_cases b <;> rfl
  · rw [dif_neg (show ¬ (2 : Fin 3) ∈ d.startIndexMap from by decide)]
    exact (by omega : ∀ n : ℕ, n = k.val → 0 + 0 + n = k.val) _ rfl

theorem gates_at (x : FVec Ideal S8192x512 .f32) (r : FVec Ideal S512x16 .f32) (i : IVec S8192x2 32) (t : Fin 8192) (s : Fin 2) :
    gates x r i (ix2 t s) = pick (prob fun e => ∑ k, x (ix2 t k) * r (ix2 k e)) (i (ix2 t s)) := by
  unfold gates pick
  show Scalar.select (within i (ix2 t s)) (Host.gather gather_S8192x16_S8192x2x2_S8192x2_n_01_n_n_01_2_11 (probs x r) (pairs i) (ix2 t s)) _ = _
  rw [within_at]
  split
  · rename_i h
    rw [look_gate _ _ _ _ h, probs_at]; rfl
  · exact Ideal.ofBits_zero_f32

theorem prods_at (x : FVec Ideal S8192x512 .f32) (i : IVec S8192x2 32) (W : FVec Ideal S16x512x1024 .f32) (t : Fin 8192) (s : Fin 2) (h : Fin 1024) :
    prods x i W (ix3 t s h) = pick (fun e => ∑ k, x (ix2 t k) * W (ix3 e k h)) (i (ix2 t s)) := by
  have hw : broadcastInDim S8192x2x1024 ![0, 1] bcast_S8192x2_S8192x2x1024_0_1 (within i) (ix3 t s h) = within i (ix2 t s) := by pointwise
  unfold prods pick
  show Scalar.select (broadcastInDim S8192x2x1024 ![0, 1] bcast_S8192x2_S8192x2x1024_0_1 (within i) (ix3 t s h))
    (Host.gather gather_S8192x16x1024_S8192x2x2_S8192x2x1024_2_01_n_n_01_2_111024 (outs x W) (pairs i) (ix3 t s h)) _ = _
  rw [hw, within_at]
  split
  · rename_i hi
    rw [look_prod _ _ _ _ _ hi, outs_at]; rfl
  · exact Ideal.ofBits_zero_f32

theorem shares_at (x : FVec Ideal S8192x512 .f32) (r : FVec Ideal S512x16 .f32) (i : IVec S8192x2 32) (t : Fin 8192) (s : Fin 2) :
    shares x r i (ix2 t s) = Ideal.div (gates x r i (ix2 t s)) (gates x r i (ix2 t 0) + gates x r i (ix2 t 1)) := by
  pointwise [shares]
  rw [Fin.sum_univ_two]

/-- One entry of the reference. -/
theorem mixed_at (x : FVec Ideal S8192x512 .f32) (r : FVec Ideal S512x16 .f32) (i : IVec S8192x2 32) (W : FVec Ideal S16x512x1024 .f32) (t : Fin 8192) (h : Fin 1024) :
    mixed x r i W (ix2 t h) = entry (fun k => x (ix2 t k)) (fun k e => r (ix2 k e)) (fun e k => W (ix3 e k h)) (i (ix2 t 0)) (i (ix2 t 1)) := by
  pointwise [mixed]
  rw [Fin.sum_univ_two, shares_at, shares_at, prods_at, prods_at, gates_at, gates_at]
  rfl

end Cert.ReferenceIdeal.Value

end
-- ==== Proof.Equation.lean ====
/-
# The equation

Every device of the kernel ends with its block of the rows of the reference.
-/
module

public import proofs.«01_k».proof.Proof.Finite
public import proofs.«01_k».proof.Proof.KernelAt
public import proofs.«01_k».proof.Proof.RefAt
public import proofs.«01_k».proof.Proof.Gen.ReferenceIdeal.Run
public import Idealize.ShloMosaic.Lib.LayoutAt

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Blocks of the whole arrays -/

/-- Row `r` of device `c`'s tokens among all the tokens. -/
def rowAt (c : Dev nD) (r : Fin 2048) : Fin 8192 := ⟨c.val * 2048 + r.val, by have := c.isLt; simp only [nD] at this; omega⟩

theorem rows_at {α : Type} {w : ℕ} (c : Dev nD) (v : (⟨2, ![8192, w]⟩ : Shape).Idx → α) (h : Layout.Tiles ⟨2, ![2048, w]⟩ ⟨2, ![8192, w]⟩ 0 4) (r : Fin 2048) (k : Fin w) :
    Layout.block ⟨2, ![2048, w]⟩ ⟨2, ![8192, w]⟩ 0 4 c v h (ix2 r k) = v (ix2 (rowAt c r) k) :=
  congrArg v (funext fun a => Fin.ext (by fin_cases a <;> rfl))

theorem experts_at {α : Type} (c : Dev nD) (v : (⟨3, ![16, 512, 1024]⟩ : Shape).Idx → α) (h : Layout.Tiles ⟨3, ![4, 512, 1024]⟩ ⟨3, ![16, 512, 1024]⟩ 0 4)
    (j : Fin 4) (k : Fin 512) (l : Fin 1024) :
    Layout.block ⟨3, ![4, 512, 1024]⟩ ⟨3, ![16, 512, 1024]⟩ 0 4 c v h (ix3 j k l) = v (ix3 ⟨c.val * 4 + j.val, exp_lt c j⟩ k l) :=
  congrArg v (funext fun a => Fin.ext (by fin_cases a <;> rfl))

/-! ## What the kernel's arrays hold -/

theorem xstg_eq (m : (ℓ : Loc nD τ sig) → Buf (Elt F) ℓ) (c : Dev nD) : xstg m c = m ((c.tc : Thread nD τ).loc main_arg0) :=
  Memref.read_access_unit_zero (Elt F) main_arg0 (funext fun a => by fin_cases a <;> decide) (fun a => by fin_cases a <;> decide) _
theorem rstg_eq (m : (ℓ : Loc nD τ sig) → Buf (Elt F) ℓ) (c : Dev nD) : rstg m c = m ((c.tc : Thread nD τ).loc main_arg1) :=
  Memref.read_access_unit_zero (Elt F) main_arg1 (funext fun a => by fin_cases a <;> decide) (fun a => by fin_cases a <;> decide) _
theorem istg_eq (m : (ℓ : Loc nD τ sig) → Buf (Elt F) ℓ) (c : Dev nD) : istg m c = m ((c.tc : Thread nD τ).loc main_arg2) :=
  Memref.read_access_unit_zero (Elt F) main_arg2 (funext fun a => by fin_cases a <;> decide) (fun a => by fin_cases a <;> decide) _
theorem finalA_eq (m : (ℓ : Loc nD τ sig) → Buf (Elt F) ℓ) (ρ : Dev nD → PrngReg) (c : Dev nD) : finalA m ρ c (3 : Fin 4) = outAt m c :=
  (out_whole _).symm.trans (finalA_out m ρ c)

/-! ## The equation -/

/-- Device `c`'s result is block `c` of the reference's, of tokens and a router that are real. -/
theorem out_eq (m : (ℓ : Loc nD τ sig) → Buf (Elt Ideal) ℓ)
    (x : Vec Ideal Cert.ReferenceIdeal.S8192x512 .f32) (R : Vec Ideal S512x16 .f32) (i : Vec Ideal Cert.ReferenceIdeal.S8192x2 .i32) (W : Vec Ideal Cert.ReferenceIdeal.S16x512x1024 .f32)
    (hx : ∀ c : Dev nD, m ((c.tc : Thread nD τ).loc main_arg0) = Layout.block ⟨2, ![2048, 512]⟩ ⟨2, ![8192, 512]⟩ 0 4 c x)
    (hR : ∀ c : Dev nD, m ((c.tc : Thread nD τ).loc main_arg1) = R)
    (hi : ∀ c : Dev nD, m ((c.tc : Thread nD τ).loc main_arg2) = Layout.block ⟨2, ![2048, 2]⟩ ⟨2, ![8192, 2]⟩ 0 4 c i)
    (hW : ∀ c : Dev nD, m ((c.tc : Thread nD τ).loc main_arg3) = Layout.block ⟨3, ![4, 512, 1024]⟩ ⟨3, ![16, 512, 1024]⟩ 0 4 c W)
    (fx : ∀ (c : Dev nD) j, ∃ r : ℝ, m ((c.tc : Thread nD τ).loc main_arg0) j = (r : EReal))
    (fR : ∀ (c : Dev nD) j, ∃ r : ℝ, m ((c.tc : Thread nD τ).loc main_arg1) j = (r : EReal)) (c : Dev nD) :
    outAt m c = Layout.block ⟨2, ![2048, 1024]⟩ ⟨2, ![8192, 1024]⟩ 0 4 c (Cert.ReferenceIdeal.Value.mixed (F := Ideal) x R i W) := by
  funext j
  obtain ⟨r, h, rfl⟩ : ∃ (r : Fin 2048) (h : Fin 1024), j = ix2 r h := ⟨j 0, j 1, funext fun a => by fin_cases a <;> rfl⟩
  unfold outAt
  rw [xstg_eq, rstg_eq, istg_eq]
  refine (total_at m c _ _ _ r h (fun e k => W (ix3 e k h)) (fun n k => ?_) (fun k => fx c _) (fun k e => fR c _)).trans ?_
  · exact ((mats_at m c n k h).trans ((congrFun (hW (srcOf c n)) _).trans (experts_at (srcOf c n) W (by decide) (rowOf n) k h))).symm
  · refine Eq.trans ?_ ((rows_at c _ (by decide) r h).trans (Cert.ReferenceIdeal.Value.mixed_at x R i W (rowAt c r) h)).symm
    rw [hx c, hR c, hi c]
    simp only [rows_at]

theorem algebraic : Cert.algebraic_KernelIdeal_ReferenceIdeal_pre_finite_routing_KernelIdeal := fun m g m' g' hp hb => by
  refine ⟨Cert.ReferenceIdeal.Value.res_main_v49 m' 0, ?_, ?_⟩
  · refine (θ_run Cert.KernelIdeal.defs _ _).mono (fun r h c => ⟨?_, frames m g r h.1 c⟩) (run_main (F := Ideal) m g)
    refine ((h.1 c).1 (3 : Fin 4)).trans ((finalA_eq m g c).trans ?_)
    exact out_eq m _ _ _ _ (fun c => (hb c).1) (fun c => (hb c).2.1) (fun c => (hb c).2.2.1) (fun c => (hb c).2.2.2)
      (fun c => (finite m hp c).1) (fun c => (finite m hp c).2) c
  · exact (θ_run Cert.ReferenceIdeal.defs _ _).mono (fun r h => h 0) (Cert.ReferenceIdeal.Value.run (F := Ideal) m' g')

end Cert.KernelIdeal.Moe

end
-- ==== Proof.lean ====
/-
# The certificate of the kernel
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim :=
  ⟨Cert.Kernel.Gen.facts, Cert.KernelIdeal.Gen.facts, Cert.ReferenceIdeal.Gen.facts,
    Cert.KernelIdeal.Moe.preFacts, Cert.KernelIdeal.Moe.preFactsRef,
    Cert.KernelIdeal.Moe.frame_kernel, Cert.KernelIdeal.Moe.frame_kernelIdeal,
    fun m g _ => Cert.KernelIdeal.Moe.frame_kernelIdeal m g trivial,
    Cert.KernelIdeal.Moe.frame_reference,
    fun m g _ => Cert.KernelIdeal.Moe.frame_reference m g trivial,
    trivial, Cert.KernelIdeal.Moe.algebraic⟩

end Cert.Proof

end
